-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S2048x2048 : Shape := ⟨2, ![2048, 2048]⟩
abbrev S64x2048 : Shape := ⟨2, ![64, 2048]⟩
abbrev S4x2048x512 : Shape := ⟨3, ![4, 2048, 512]⟩
abbrev S32 : Shape := ⟨1, ![32]⟩
abbrev S4 : Shape := ⟨1, ![4]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S64x64 : Shape := ⟨2, ![64, 64]⟩
abbrev S64x512 : Shape := ⟨2, ![64, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x64, .bf16⟩
  | .hbm, ⟨1, _⟩ => ⟨S2048x2048, .bf16⟩
  | .hbm, ⟨2, _⟩ => ⟨S64x2048, .f32⟩
  | .local _ .vmem, ⟨0, _⟩ => ⟨S2048x64, .bf16⟩
  | .local _ .vmem, ⟨1, _⟩ => ⟨S64x2048, .f32⟩
  | .local _ .vmem, ⟨2, _⟩ => ⟨S2048x64, .bf16⟩
  | .local _ .vmem, ⟨3, _⟩ => ⟨S2048x64, .bf16⟩
  | .local _ .vmem, ⟨4, _⟩ => ⟨S4x2048x512, .bf16⟩
  | _, _ => ⟨S2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_18 : BitVec 32 := 1#32
  let v24 : BitVec 32 := Scalar.addi v2 c1_i32_18
  let c32_i32_19 : BitVec 32 := 32#32
  let v25 : BitVec 32 := Scalar.remsi v24 c32_i32_19
  let c1_i32_21 : BitVec 32 := 1#32
  let v26 : BitVec 32 := Scalar.muli v25 c1_i32_21
  let v27 : BitVec 32 := Scalar.addi c0_i32_22 v26
  v27.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_23 : BitVec 32 := 2#32
  let v28 : BitVec 32 := Scalar.addi v2 c2_i32_23
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_28 : BitVec 32 := 3#32
  let v32 : BitVec 32 := Scalar.addi v2 c3_i32_28
  let c32_i32_29 : BitVec 32 := 32#32
  let v33 : BitVec 32 := Scalar.remsi v32 c32_i32_29
  let c1_i32_31 : BitVec 32 := 1#32
  let v34 : BitVec 32 := Scalar.muli v33 c1_i32_31
  let v35 : BitVec 32 := Scalar.addi c0_i32_32 v34
  v35.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v36 : BitVec 32 := Scalar.addi v2 c4_i32
  let c32_i32_33 : BitVec 32 := 32#32
  let v37 : BitVec 32 := Scalar.remsi v36 c32_i32_33
  let c1_i32_35 : BitVec 32 := 1#32
  let v38 : BitVec 32 := Scalar.muli v37 c1_i32_35
  let v39 : BitVec 32 := Scalar.addi c0_i32_36 v38
  v39.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v40 : BitVec 32 := Scalar.addi v2 c5_i32
  let c32_i32_37 : BitVec 32 := 32#32
  let v41 : BitVec 32 := Scalar.remsi v40 c32_i32_37
  let c1_i32_39 : BitVec 32 := 1#32
  let v42 : BitVec 32 := Scalar.muli v41 c1_i32_39
  let v43 : BitVec 32 := Scalar.addi c0_i32_40 v42
  v43.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v44 : BitVec 32 := Scalar.addi v2 c6_i32
  let c32_i32_41 : BitVec 32 := 32#32
  let v45 : BitVec 32 := Scalar.remsi v44 c32_i32_41
  let c1_i32_43 : BitVec 32 := 1#32
  let v46 : BitVec 32 := Scalar.muli v45 c1_i32_43
  let v47 : BitVec 32 := Scalar.addi c0_i32_44 v46
  v47.toNat
def k0_dev7 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v48 : BitVec 32 := Scalar.addi v2 c7_i32
  let c32_i32_45 : BitVec 32 := 32#32
  let v49 : BitVec 32 := Scalar.remsi v48 c32_i32_45
  let c1_i32_47 : BitVec 32 := 1#32
  let v50 : BitVec 32 := Scalar.muli v49 c1_i32_47
  let v51 : BitVec 32 := Scalar.addi c0_i32_48 v50
  v51.toNat
def k0_dev8 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v52 : BitVec 32 := Scalar.addi v2 c8_i32
  let c32_i32_49 : BitVec 32 := 32#32
  let v53 : BitVec 32 := Scalar.remsi v52 c32_i32_49
  let c1_i32_51 : BitVec 32 := 1#32
  let v54 : BitVec 32 := Scalar.muli v53 c1_i32_51
  let v55 : BitVec 32 := Scalar.addi c0_i32_52 v54
  v55.toNat
def k0_dev9 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v56 : BitVec 32 := Scalar.addi v2 c9_i32
  let c32_i32_53 : BitVec 32 := 32#32
  let v57 : BitVec 32 := Scalar.remsi v56 c32_i32_53
  let c1_i32_55 : BitVec 32 := 1#32
  let v58 : BitVec 32 := Scalar.muli v57 c1_i32_55
  let v59 : BitVec 32 := Scalar.addi c0_i32_56 v58
  v59.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v60 : BitVec 32 := Scalar.addi v2 c10_i32
  let c32_i32_57 : BitVec 32 := 32#32
  let v61 : BitVec 32 := Scalar.remsi v60 c32_i32_57
  let c1_i32_59 : BitVec 32 := 1#32
  let v62 : BitVec 32 := Scalar.muli v61 c1_i32_59
  let v63 : BitVec 32 := Scalar.addi c0_i32_60 v62
  v63.toNat
def k0_dev11 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v64 : BitVec 32 := Scalar.addi v2 c11_i32
  let c32_i32_61 : BitVec 32 := 32#32
  let v65 : BitVec 32 := Scalar.remsi v64 c32_i32_61
  let c1_i32_63 : BitVec 32 := 1#32
  let v66 : BitVec 32 := Scalar.muli v65 c1_i32_63
  let v67 : BitVec 32 := Scalar.addi c0_i32_64 v66
  v67.toNat
def k0_dev12 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v68 : BitVec 32 := Scalar.addi v2 c12_i32
  let c32_i32_65 : BitVec 32 := 32#32
  let v69 : BitVec 32 := Scalar.remsi v68 c32_i32_65
  let c1_i32_67 : BitVec 32 := 1#32
  let v70 : BitVec 32 := Scalar.muli v69 c1_i32_67
  let v71 : BitVec 32 := Scalar.addi c0_i32_68 v70
  v71.toNat
def k0_dev13 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v72 : BitVec 32 := Scalar.addi v2 c13_i32
  let c32_i32_69 : BitVec 32 := 32#32
  let v73 : BitVec 32 := Scalar.remsi v72 c32_i32_69
  let c1_i32_71 : BitVec 32 := 1#32
  let v74 : BitVec 32 := Scalar.muli v73 c1_i32_71
  let v75 : BitVec 32 := Scalar.addi c0_i32_72 v74
  v75.toNat
def k0_dev14 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v76 : BitVec 32 := Scalar.addi v2 c14_i32
  let c32_i32_73 : BitVec 32 := 32#32
  let v77 : BitVec 32 := Scalar.remsi v76 c32_i32_73
  let c1_i32_75 : BitVec 32 := 1#32
  let v78 : BitVec 32 := Scalar.muli v77 c1_i32_75
  let v79 : BitVec 32 := Scalar.addi c0_i32_76 v78
  v79.toNat
def k0_dev15 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v80 : BitVec 32 := Scalar.addi v2 c15_i32
  let c32_i32_77 : BitVec 32 := 32#32
  let v81 : BitVec 32 := Scalar.remsi v80 c32_i32_77
  let c1_i32_79 : BitVec 32 := 1#32
  let v82 : BitVec 32 := Scalar.muli v81 c1_i32_79
  let v83 : BitVec 32 := Scalar.addi c0_i32_80 v82
  v83.toNat
def k0_dev16 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v84 : BitVec 32 := Scalar.addi v2 c16_i32
  let c32_i32_81 : BitVec 32 := 32#32
  let v85 : BitVec 32 := Scalar.remsi v84 c32_i32_81
  let c1_i32_83 : BitVec 32 := 1#32
  let v86 : BitVec 32 := Scalar.muli v85 c1_i32_83
  let v87 : BitVec 32 := Scalar.addi c0_i32_84 v86
  v87.toNat
def k0_dev17 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v88 : BitVec 32 := Scalar.addi v2 c17_i32
  let c32_i32_85 : BitVec 32 := 32#32
  let v89 : BitVec 32 := Scalar.remsi v88 c32_i32_85
  let c1_i32_87 : BitVec 32 := 1#32
  let v90 : BitVec 32 := Scalar.muli v89 c1_i32_87
  let v91 : BitVec 32 := Scalar.addi c0_i32_88 v90
  v91.toNat
def k0_dev18 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v92 : BitVec 32 := Scalar.addi v2 c18_i32
  let c32_i32_89 : BitVec 32 := 32#32
  let v93 : BitVec 32 := Scalar.remsi v92 c32_i32_89
  let c1_i32_91 : BitVec 32 := 1#32
  let v94 : BitVec 32 := Scalar.muli v93 c1_i32_91
  let v95 : BitVec 32 := Scalar.addi c0_i32_92 v94
  v95.toNat
def k0_dev19 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v96 : BitVec 32 := Scalar.addi v2 c19_i32
  let c32_i32_93 : BitVec 32 := 32#32
  let v97 : BitVec 32 := Scalar.remsi v96 c32_i32_93
  let c1_i32_95 : BitVec 32 := 1#32
  let v98 : BitVec 32 := Scalar.muli v97 c1_i32_95
  let v99 : BitVec 32 := Scalar.addi c0_i32_96 v98
  v99.toNat
def k0_dev20 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v100 : BitVec 32 := Scalar.addi v2 c20_i32
  let c32_i32_97 : BitVec 32 := 32#32
  let v101 : BitVec 32 := Scalar.remsi v100 c32_i32_97
  let c1_i32_99 : BitVec 32 := 1#32
  let v102 : BitVec 32 := Scalar.muli v101 c1_i32_99
  let v103 : BitVec 32 := Scalar.addi c0_i32_100 v102
  v103.toNat
def k0_dev21 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v104 : BitVec 32 := Scalar.addi v2 c21_i32
  let c32_i32_101 : BitVec 32 := 32#32
  let v105 : BitVec 32 := Scalar.remsi v104 c32_i32_101
  let c1_i32_103 : BitVec 32 := 1#32
  let v106 : BitVec 32 := Scalar.muli v105 c1_i32_103
  let v107 : BitVec 32 := Scalar.addi c0_i32_104 v106
  v107.toNat
def k0_dev22 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v108 : BitVec 32 := Scalar.addi v2 c22_i32
  let c32_i32_105 : BitVec 32 := 32#32
  let v109 : BitVec 32 := Scalar.remsi v108 c32_i32_105
  let c1_i32_107 : BitVec 32 := 1#32
  let v110 : BitVec 32 := Scalar.muli v109 c1_i32_107
  let v111 : BitVec 32 := Scalar.addi c0_i32_108 v110
  v111.toNat
def k0_dev23 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v112 : BitVec 32 := Scalar.addi v2 c23_i32
  let c32_i32_109 : BitVec 32 := 32#32
  let v113 : BitVec 32 := Scalar.remsi v112 c32_i32_109
  let c1_i32_111 : BitVec 32 := 1#32
  let v114 : BitVec 32 := Scalar.muli v113 c1_i32_111
  let v115 : BitVec 32 := Scalar.addi c0_i32_112 v114
  v115.toNat
def k0_dev24 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v116 : BitVec 32 := Scalar.addi v2 c24_i32
  let c32_i32_113 : BitVec 32 := 32#32
  let v117 : BitVec 32 := Scalar.remsi v116 c32_i32_113
  let c1_i32_115 : BitVec 32 := 1#32
  let v118 : BitVec 32 := Scalar.muli v117 c1_i32_115
  let v119 : BitVec 32 := Scalar.addi c0_i32_116 v118
  v119.toNat
def k0_dev25 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v120 : BitVec 32 := Scalar.addi v2 c25_i32
  let c32_i32_117 : BitVec 32 := 32#32
  let v121 : BitVec 32 := Scalar.remsi v120 c32_i32_117
  let c1_i32_119 : BitVec 32 := 1#32
  let v122 : BitVec 32 := Scalar.muli v121 c1_i32_119
  let v123 : BitVec 32 := Scalar.addi c0_i32_120 v122
  v123.toNat
def k0_dev26 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v124 : BitVec 32 := Scalar.addi v2 c26_i32
  let c32_i32_121 : BitVec 32 := 32#32
  let v125 : BitVec 32 := Scalar.remsi v124 c32_i32_121
  let c1_i32_123 : BitVec 32 := 1#32
  let v126 : BitVec 32 := Scalar.muli v125 c1_i32_123
  let v127 : BitVec 32 := Scalar.addi c0_i32_124 v126
  v127.toNat
def k0_dev27 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v128 : BitVec 32 := Scalar.addi v2 c27_i32
  let c32_i32_125 : BitVec 32 := 32#32
  let v129 : BitVec 32 := Scalar.remsi v128 c32_i32_125
  let c1_i32_127 : BitVec 32 := 1#32
  let v130 : BitVec 32 := Scalar.muli v129 c1_i32_127
  let v131 : BitVec 32 := Scalar.addi c0_i32_128 v130
  v131.toNat
def k0_dev28 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v132 : BitVec 32 := Scalar.addi v2 c28_i32
  let c32_i32_129 : BitVec 32 := 32#32
  let v133 : BitVec 32 := Scalar.remsi v132 c32_i32_129
  let c1_i32_131 : BitVec 32 := 1#32
  let v134 : BitVec 32 := Scalar.muli v133 c1_i32_131
  let v135 : BitVec 32 := Scalar.addi c0_i32_132 v134
  v135.toNat
def k0_dev29 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v136 : BitVec 32 := Scalar.addi v2 c29_i32
  let c32_i32_133 : BitVec 32 := 32#32
  let v137 : BitVec 32 := Scalar.remsi v136 c32_i32_133
  let c1_i32_135 : BitVec 32 := 1#32
  let v138 : BitVec 32 := Scalar.muli v137 c1_i32_135
  let v139 : BitVec 32 := Scalar.addi c0_i32_136 v138
  v139.toNat
def k0_dev30 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v140 : BitVec 32 := Scalar.addi v2 c30_i32
  let c32_i32_137 : BitVec 32 := 32#32
  let v141 : BitVec 32 := Scalar.remsi v140 c32_i32_137
  let c1_i32_139 : BitVec 32 := 1#32
  let v142 : BitVec 32 := Scalar.muli v141 c1_i32_139
  let v143 : BitVec 32 := Scalar.addi c0_i32_140 v142
  v143.toNat
def k0_dev31 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v144 : BitVec 32 := Scalar.addi v2 c31_i32
  let c32_i32_141 : BitVec 32 := 32#32
  let v145 : BitVec 32 := Scalar.remsi v144 c32_i32_141
  let c1_i32_143 : BitVec 32 := 1#32
  let v146 : BitVec 32 := Scalar.muli v145 c1_i32_143
  let v147 : BitVec 32 := Scalar.addi c0_i32_144 v146
  v147.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_244 : BitVec 32 := 64#32
  let v343 : BitVec 32 := Scalar.muli v2 c64_i32_244
  let c0_i32_249 : BitVec 32 := 0#32
  ![v343.toNat, 0]
def k0_off2 (d0 : Dev nD) (c1_i32_242 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v340 : BitVec 32 := Scalar.addi v2 c1_i32_242
  let c32_i32_243 : BitVec 32 := 32#32
  let v341 : BitVec 32 := Scalar.remsi v340 c32_i32_243
  let c64_i32 : BitVec 32 := 64#32
  let v342 : BitVec 32 := Scalar.muli v341 c64_i32
  let c0_i32_250 : BitVec 32 := 0#32
  ![v342.toNat, 0]
def k0_dev32 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_242 : BitVec 32 := 1#32
  let v340 : BitVec 32 := Scalar.addi v2 c1_i32_242
  let c32_i32_243 : BitVec 32 := 32#32
  let v341 : BitVec 32 := Scalar.remsi v340 c32_i32_243
  let c1_i32_247 : BitVec 32 := 1#32
  let v344 : BitVec 32 := Scalar.muli v341 c1_i32_247
  let v345 : BitVec 32 := Scalar.addi c0_i32_248 v344
  v345.toNat
def k0_dev33 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_251 : BitVec 32 := 2#32
  let v352 : BitVec 32 := Scalar.addi v2 c2_i32_251
  let c32_i32_252 : BitVec 32 := 32#32
  let v353 : BitVec 32 := Scalar.remsi v352 c32_i32_252
  let c1_i32_257 : BitVec 32 := 1#32
  let v356 : BitVec 32 := Scalar.muli v353 c1_i32_257
  let v357 : BitVec 32 := Scalar.addi c0_i32_258 v356
  v357.toNat
def k0_dev34 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_261 : BitVec 32 := 3#32
  let v364 : BitVec 32 := Scalar.addi v2 c3_i32_261
  let c32_i32_262 : BitVec 32 := 32#32
  let v365 : BitVec 32 := Scalar.remsi v364 c32_i32_262
  let c1_i32_267 : BitVec 32 := 1#32
  let v368 : BitVec 32 := Scalar.muli v365 c1_i32_267
  let v369 : BitVec 32 := Scalar.addi c0_i32_268 v368
  v369.toNat
def k0_dev35 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_271 : BitVec 32 := 4#32
  let v376 : BitVec 32 := Scalar.addi v2 c4_i32_271
  let c32_i32_272 : BitVec 32 := 32#32
  let v377 : BitVec 32 := Scalar.remsi v376 c32_i32_272
  let c1_i32_277 : BitVec 32 := 1#32
  let v380 : BitVec 32 := Scalar.muli v377 c1_i32_277
  let v381 : BitVec 32 := Scalar.addi c0_i32_278 v380
  v381.toNat
def k0_dev36 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_281 : BitVec 32 := 5#32
  let v388 : BitVec 32 := Scalar.addi v2 c5_i32_281
  let c32_i32_282 : BitVec 32 := 32#32
  let v389 : BitVec 32 := Scalar.remsi v388 c32_i32_282
  let c1_i32_287 : BitVec 32 := 1#32
  let v392 : BitVec 32 := Scalar.muli v389 c1_i32_287
  let v393 : BitVec 32 := Scalar.addi c0_i32_288 v392
  v393.toNat
def k0_dev37 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_291 : BitVec 32 := 6#32
  let v400 : BitVec 32 := Scalar.addi v2 c6_i32_291
  let c32_i32_292 : BitVec 32 := 32#32
  let v401 : BitVec 32 := Scalar.remsi v400 c32_i32_292
  let c1_i32_297 : BitVec 32 := 1#32
  let v404 : BitVec 32 := Scalar.muli v401 c1_i32_297
  let v405 : BitVec 32 := Scalar.addi c0_i32_298 v404
  v405.toNat
def k0_dev38 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_301 : BitVec 32 := 7#32
  let v412 : BitVec 32 := Scalar.addi v2 c7_i32_301
  let c32_i32_302 : BitVec 32 := 32#32
  let v413 : BitVec 32 := Scalar.remsi v412 c32_i32_302
  let c1_i32_307 : BitVec 32 := 1#32
  let v416 : BitVec 32 := Scalar.muli v413 c1_i32_307
  let v417 : BitVec 32 := Scalar.addi c0_i32_308 v416
  v417.toNat
def k0_dev39 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_311 : BitVec 32 := 8#32
  let v424 : BitVec 32 := Scalar.addi v2 c8_i32_311
  let c32_i32_312 : BitVec 32 := 32#32
  let v425 : BitVec 32 := Scalar.remsi v424 c32_i32_312
  let c1_i32_317 : BitVec 32 := 1#32
  let v428 : BitVec 32 := Scalar.muli v425 c1_i32_317
  let v429 : BitVec 32 := Scalar.addi c0_i32_318 v428
  v429.toNat
def k0_dev40 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_321 : BitVec 32 := 9#32
  let v436 : BitVec 32 := Scalar.addi v2 c9_i32_321
  let c32_i32_322 : BitVec 32 := 32#32
  let v437 : BitVec 32 := Scalar.remsi v436 c32_i32_322
  let c1_i32_327 : BitVec 32 := 1#32
  let v440 : BitVec 32 := Scalar.muli v437 c1_i32_327
  let v441 : BitVec 32 := Scalar.addi c0_i32_328 v440
  v441.toNat
def k0_dev41 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_331 : BitVec 32 := 10#32
  let v448 : BitVec 32 := Scalar.addi v2 c10_i32_331
  let c32_i32_332 : BitVec 32 := 32#32
  let v449 : BitVec 32 := Scalar.remsi v448 c32_i32_332
  let c1_i32_337 : BitVec 32 := 1#32
  let v452 : BitVec 32 := Scalar.muli v449 c1_i32_337
  let v453 : BitVec 32 := Scalar.addi c0_i32_338 v452
  v453.toNat
def k0_dev42 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_341 : BitVec 32 := 11#32
  let v460 : BitVec 32 := Scalar.addi v2 c11_i32_341
  let c32_i32_342 : BitVec 32 := 32#32
  let v461 : BitVec 32 := Scalar.remsi v460 c32_i32_342
  let c1_i32_347 : BitVec 32 := 1#32
  let v464 : BitVec 32 := Scalar.muli v461 c1_i32_347
  let v465 : BitVec 32 := Scalar.addi c0_i32_348 v464
  v465.toNat
def k0_dev43 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_351 : BitVec 32 := 12#32
  let v472 : BitVec 32 := Scalar.addi v2 c12_i32_351
  let c32_i32_352 : BitVec 32 := 32#32
  let v473 : BitVec 32 := Scalar.remsi v472 c32_i32_352
  let c1_i32_357 : BitVec 32 := 1#32
  let v476 : BitVec 32 := Scalar.muli v473 c1_i32_357
  let v477 : BitVec 32 := Scalar.addi c0_i32_358 v476
  v477.toNat
def k0_dev44 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_361 : BitVec 32 := 13#32
  let v484 : BitVec 32 := Scalar.addi v2 c13_i32_361
  let c32_i32_362 : BitVec 32 := 32#32
  let v485 : BitVec 32 := Scalar.remsi v484 c32_i32_362
  let c1_i32_367 : BitVec 32 := 1#32
  let v488 : BitVec 32 := Scalar.muli v485 c1_i32_367
  let v489 : BitVec 32 := Scalar.addi c0_i32_368 v488
  v489.toNat
def k0_dev45 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_371 : BitVec 32 := 14#32
  let v496 : BitVec 32 := Scalar.addi v2 c14_i32_371
  let c32_i32_372 : BitVec 32 := 32#32
  let v497 : BitVec 32 := Scalar.remsi v496 c32_i32_372
  let c1_i32_377 : BitVec 32 := 1#32
  let v500 : BitVec 32 := Scalar.muli v497 c1_i32_377
  let v501 : BitVec 32 := Scalar.addi c0_i32_378 v500
  v501.toNat
def k0_dev46 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_381 : BitVec 32 := 15#32
  let v508 : BitVec 32 := Scalar.addi v2 c15_i32_381
  let c32_i32_382 : BitVec 32 := 32#32
  let v509 : BitVec 32 := Scalar.remsi v508 c32_i32_382
  let c1_i32_387 : BitVec 32 := 1#32
  let v512 : BitVec 32 := Scalar.muli v509 c1_i32_387
  let v513 : BitVec 32 := Scalar.addi c0_i32_388 v512
  v513.toNat
def k0_dev47 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_391 : BitVec 32 := 16#32
  let v520 : BitVec 32 := Scalar.addi v2 c16_i32_391
  let c32_i32_392 : BitVec 32 := 32#32
  let v521 : BitVec 32 := Scalar.remsi v520 c32_i32_392
  let c1_i32_397 : BitVec 32 := 1#32
  let v524 : BitVec 32 := Scalar.muli v521 c1_i32_397
  let v525 : BitVec 32 := Scalar.addi c0_i32_398 v524
  v525.toNat
def k0_dev48 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_401 : BitVec 32 := 17#32
  let v532 : BitVec 32 := Scalar.addi v2 c17_i32_401
  let c32_i32_402 : BitVec 32 := 32#32
  let v533 : BitVec 32 := Scalar.remsi v532 c32_i32_402
  let c1_i32_407 : BitVec 32 := 1#32
  let v536 : BitVec 32 := Scalar.muli v533 c1_i32_407
  let v537 : BitVec 32 := Scalar.addi c0_i32_408 v536
  v537.toNat
def k0_dev49 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_411 : BitVec 32 := 18#32
  let v544 : BitVec 32 := Scalar.addi v2 c18_i32_411
  let c32_i32_412 : BitVec 32 := 32#32
  let v545 : BitVec 32 := Scalar.remsi v544 c32_i32_412
  let c1_i32_417 : BitVec 32 := 1#32
  let v548 : BitVec 32 := Scalar.muli v545 c1_i32_417
  let v549 : BitVec 32 := Scalar.addi c0_i32_418 v548
  v549.toNat
def k0_dev50 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_421 : BitVec 32 := 19#32
  let v556 : BitVec 32 := Scalar.addi v2 c19_i32_421
  let c32_i32_422 : BitVec 32 := 32#32
  let v557 : BitVec 32 := Scalar.remsi v556 c32_i32_422
  let c1_i32_427 : BitVec 32 := 1#32
  let v560 : BitVec 32 := Scalar.muli v557 c1_i32_427
  let v561 : BitVec 32 := Scalar.addi c0_i32_428 v560
  v561.toNat
def k0_dev51 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_431 : BitVec 32 := 20#32
  let v568 : BitVec 32 := Scalar.addi v2 c20_i32_431
  let c32_i32_432 : BitVec 32 := 32#32
  let v569 : BitVec 32 := Scalar.remsi v568 c32_i32_432
  let c1_i32_437 : BitVec 32 := 1#32
  let v572 : BitVec 32 := Scalar.muli v569 c1_i32_437
  let v573 : BitVec 32 := Scalar.addi c0_i32_438 v572
  v573.toNat
def k0_dev52 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_441 : BitVec 32 := 21#32
  let v580 : BitVec 32 := Scalar.addi v2 c21_i32_441
  let c32_i32_442 : BitVec 32 := 32#32
  let v581 : BitVec 32 := Scalar.remsi v580 c32_i32_442
  let c1_i32_447 : BitVec 32 := 1#32
  let v584 : BitVec 32 := Scalar.muli v581 c1_i32_447
  let v585 : BitVec 32 := Scalar.addi c0_i32_448 v584
  v585.toNat
def k0_dev53 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_451 : BitVec 32 := 22#32
  let v592 : BitVec 32 := Scalar.addi v2 c22_i32_451
  let c32_i32_452 : BitVec 32 := 32#32
  let v593 : BitVec 32 := Scalar.remsi v592 c32_i32_452
  let c1_i32_457 : BitVec 32 := 1#32
  let v596 : BitVec 32 := Scalar.muli v593 c1_i32_457
  let v597 : BitVec 32 := Scalar.addi c0_i32_458 v596
  v597.toNat
def k0_dev54 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_461 : BitVec 32 := 23#32
  let v604 : BitVec 32 := Scalar.addi v2 c23_i32_461
  let c32_i32_462 : BitVec 32 := 32#32
  let v605 : BitVec 32 := Scalar.remsi v604 c32_i32_462
  let c1_i32_467 : BitVec 32 := 1#32
  let v608 : BitVec 32 := Scalar.muli v605 c1_i32_467
  let v609 : BitVec 32 := Scalar.addi c0_i32_468 v608
  v609.toNat
def k0_dev55 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_471 : BitVec 32 := 24#32
  let v616 : BitVec 32 := Scalar.addi v2 c24_i32_471
  let c32_i32_472 : BitVec 32 := 32#32
  let v617 : BitVec 32 := Scalar.remsi v616 c32_i32_472
  let c1_i32_477 : BitVec 32 := 1#32
  let v620 : BitVec 32 := Scalar.muli v617 c1_i32_477
  let v621 : BitVec 32 := Scalar.addi c0_i32_478 v620
  v621.toNat
def k0_dev56 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_481 : BitVec 32 := 25#32
  let v628 : BitVec 32 := Scalar.addi v2 c25_i32_481
  let c32_i32_482 : BitVec 32 := 32#32
  let v629 : BitVec 32 := Scalar.remsi v628 c32_i32_482
  let c1_i32_487 : BitVec 32 := 1#32
  let v632 : BitVec 32 := Scalar.muli v629 c1_i32_487
  let v633 : BitVec 32 := Scalar.addi c0_i32_488 v632
  v633.toNat
def k0_dev57 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_491 : BitVec 32 := 26#32
  let v640 : BitVec 32 := Scalar.addi v2 c26_i32_491
  let c32_i32_492 : BitVec 32 := 32#32
  let v641 : BitVec 32 := Scalar.remsi v640 c32_i32_492
  let c1_i32_497 : BitVec 32 := 1#32
  let v644 : BitVec 32 := Scalar.muli v641 c1_i32_497
  let v645 : BitVec 32 := Scalar.addi c0_i32_498 v644
  v645.toNat
def k0_dev58 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_501 : BitVec 32 := 27#32
  let v652 : BitVec 32 := Scalar.addi v2 c27_i32_501
  let c32_i32_502 : BitVec 32 := 32#32
  let v653 : BitVec 32 := Scalar.remsi v652 c32_i32_502
  let c1_i32_507 : BitVec 32 := 1#32
  let v656 : BitVec 32 := Scalar.muli v653 c1_i32_507
  let v657 : BitVec 32 := Scalar.addi c0_i32_508 v656
  v657.toNat
def k0_dev59 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_511 : BitVec 32 := 28#32
  let v664 : BitVec 32 := Scalar.addi v2 c28_i32_511
  let c32_i32_512 : BitVec 32 := 32#32
  let v665 : BitVec 32 := Scalar.remsi v664 c32_i32_512
  let c1_i32_517 : BitVec 32 := 1#32
  let v668 : BitVec 32 := Scalar.muli v665 c1_i32_517
  let v669 : BitVec 32 := Scalar.addi c0_i32_518 v668
  v669.toNat
def k0_dev60 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_521 : BitVec 32 := 29#32
  let v676 : BitVec 32 := Scalar.addi v2 c29_i32_521
  let c32_i32_522 : BitVec 32 := 32#32
  let v677 : BitVec 32 := Scalar.remsi v676 c32_i32_522
  let c1_i32_527 : BitVec 32 := 1#32
  let v680 : BitVec 32 := Scalar.muli v677 c1_i32_527
  let v681 : BitVec 32 := Scalar.addi c0_i32_528 v680
  v681.toNat
def k0_dev61 (d0 : Dev nD) : Nat :=
  let c0_i32_538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_531 : BitVec 32 := 30#32
  let v688 : BitVec 32 := Scalar.addi v2 c30_i32_531
  let c32_i32_532 : BitVec 32 := 32#32
  let v689 : BitVec 32 := Scalar.remsi v688 c32_i32_532
  let c1_i32_537 : BitVec 32 := 1#32
  let v692 : BitVec 32 := Scalar.muli v689 c1_i32_537
  let v693 : BitVec 32 := Scalar.addi c0_i32_538 v692
  v693.toNat
def k0_dev62 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_541 : BitVec 32 := 31#32
  let v700 : BitVec 32 := Scalar.addi v2 c31_i32_541
  let c32_i32_542 : BitVec 32 := 32#32
  let v701 : BitVec 32 := Scalar.remsi v700 c32_i32_542
  let c1_i32_547 : BitVec 32 := 1#32
  let v704 : BitVec 32 := Scalar.muli v701 c1_i32_547
  let v705 : BitVec 32 := Scalar.addi c0_i32_548 v704
  v705.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_551 : BitVec 32 := 64#32
  let v712 : BitVec 32 := Scalar.muli v2 c64_i32_551
  let v713 : Index := Scalar.indexCast v712
  let c0_552 : Index := 0#32
  ![v713.toNat, 0]
abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Steps.lean ====
/-
The kernel body as a list of steps.

The printed body is a straight line of a few hundred operations. Here it is written once as six runs of like
steps — the copies of the weight, the entry signals, the block transposes, the sends, the waits, the products — each
a fold over a list of indices, and `body_eq` states that the printed body is that program. The proof of the run
treats one step of each kind.
-/
module

public import proofs.«01_k».proof.Proof.Gen.KernelIdeal
public import proofs.«01_k».proof.Proof.Gen.KernelIdeal.Skeleton
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL.Sem

variable {F : FTy → Type} [FloatOps F]

/-! ## The buffers and the semaphores -/

/-- The staged block of `x`, the weight, the staged block of the result, the transposed blocks, the landing buffer
    and the weight's four column blocks. -/
abbrev xM : Memref sig .tc .vmem S2048x64 .bf16 := Memref.whole cc0_stg0_0
abbrev wM : Memref sig .tc .hbm S2048x2048 .bf16 := Memref.whole main_arg1
abbrev oM : Memref sig .tc .vmem S64x2048 .f32 := Memref.whole cc0_stg1_0
abbrev tM : Memref sig .tc .vmem S2048x64 .bf16 := Memref.whole cc0_scratch0
abbrev cM : Memref sig .tc .vmem S2048x64 .bf16 := Memref.whole cc0_scratch1
abbrev bM : Memref sig .tc .vmem S4x2048x512 .bf16 := Memref.whole cc0_scratch2

/-- The barrier semaphore all devices signal on entry. -/
abbrev barS : Sem sig := (SemArray.scalar (sig.barrier 0 rfl) : Sems sig S_).sem

theorem inb_sem : ∀ i : Fin 32, ∀ a, (![i.val] : Fin 1 → Nat) a + S1.size a ≤ S32.size a := by decide
theorem inb_wsem : ∀ q : Fin 4, ∀ a, (![q.val] : Fin 1 → Nat) a + S1.size a ≤ S4.size a := by decide

/-- Semaphore `i` of the send array, of the receive array, and semaphore `q` of the weight's array. -/
abbrev sendSem (i : Fin 32) : DmaSem sig := (((cc0_scratch3 : DmaSems sig S32).slice (Rect.unit (s := S32) ![i.val] S1.size (inb_sem i))).squeeze S_ squeezes_S1_S_).sem
abbrev recvSem (i : Fin 32) : DmaSem sig := (((cc0_scratch4 : DmaSems sig S32).slice (Rect.unit (s := S32) ![i.val] S1.size (inb_sem i))).squeeze S_ squeezes_S1_S_).sem
abbrev wSem (q : Fin 4) : DmaSem sig := (((cc0_scratch5 : DmaSems sig S4).slice (Rect.unit (s := S4) ![q.val] S1.size (inb_wsem q))).squeeze S_ squeezes_S1_S_).sem

/-! ## The slices -/

theorem inb_w : ∀ q : Fin 4, ∀ a, (![0, 512 * q.val] : Fin 2 → Nat) a + S2048x512.size a ≤ S2048x2048.size a := by decide
theorem inb_b : ∀ q : Fin 4, ∀ a, (![q.val, 0, 0] : Fin 3 → Nat) a + S1x2048x512.size a ≤ S4x2048x512.size a := by decide
theorem inb_o : ∀ q : Fin 4, ∀ a, (![0, 512 * q.val] : Fin 2 → Nat) a + S64x512.size a ≤ S64x2048.size a := by decide
theorem inb_t : ∀ t : Fin 32, ∀ a, (![64 * t.val, 0] : Fin 2 → Nat) a + S64x64.size a ≤ S2048x64.size a := by decide

/-- The rectangles: columns `512 q` of the weight, slice `q` of its buffer, columns `512 q` of the result, rows `64 t` of a
    block column. -/
abbrev wRect (q : Fin 4) : Rect S2048x2048 := Rect.unit (s := S2048x2048) ![0, 512 * q.val] S2048x512.size (inb_w q)
abbrev bRect (q : Fin 4) : Rect S4x2048x512 := Rect.unit (s := S4x2048x512) ![q.val, 0, 0] S1x2048x512.size (inb_b q)
abbrev oRect (q : Fin 4) : Rect S64x2048 := Rect.unit (s := S64x2048) ![0, 512 * q.val] S64x512.size (inb_o q)
abbrev tRect (t : Fin 32) : Rect S2048x64 := Rect.unit (s := S2048x64) ![64 * t.val, 0] S64x64.size (inb_t t)

theorem words_w : ∀ q : Fin 4, (wRect q).WholeWords (EltTy.packing .bf16) := by decide
theorem words_b : ∀ q : Fin 4, (bRect q).WholeWords (EltTy.packing .bf16) := by decide
theorem packed_t : ∀ t : Fin 32, (tRect t).PackedRows (EltTy.packing .bf16) := by decide

abbrev wSrc (q : Fin 4) : Memref sig .tc .hbm S2048x512 .bf16 := wM.slice (wRect q) (fun _ => rfl)
abbrev wDst (q : Fin 4) : Memref sig .tc .vmem S2048x512 .bf16 := (bM.slice (bRect q) (fun _ => rfl)).squeeze S2048x512 squeezes_S1x2048x512_S2048x512

theorem wSrc_exact (q : Fin 4) : (wSrc q).view.WordExact := (Memref.isWhole_whole _).wordExact_slice rfl _ (words_w q)
theorem wDst_exact (q : Fin 4) : (wDst q).view.WordExact := ((Memref.isWhole_whole _).wordExact_slice rfl _ (words_b q)).reshape _ _

/-- What device `c` sends at step `r`: the transposed block for the device `r + 1` further on. -/
abbrev pSendRect (c : Dev nD) (r : Fin 31) : Rect S2048x64 := Rect.unit (s := S2048x64) (k0_off2 c (BitVec.ofNat 32 (1 + r.val))) S64x64.size (k0_off2_inb c r)
abbrev pSrc (c : Dev nD) (r : Fin 31) : Memref sig .tc .vmem S64x64 .bf16 := tM.slice (pSendRect c r) (fun _ => rfl)
/-- Where it lands: the rows of the landing buffer numbered by the sender. -/
abbrev pLandRect (c : Dev nD) : Rect S2048x64 := Rect.unit (s := S2048x64) (k0_off1 c) S64x64.size (k0_off1_inb c)
abbrev pDst (c : Dev nD) : Memref sig .tc .vmem S64x64 .bf16 := cM.slice (pLandRect c) (fun _ => rfl)

theorem pSrc_exact (c : Dev nD) (r : Fin 31) : (pSrc c r).view.WordExact := (Memref.isWhole_whole _).wordExact_slice rfl _ (k0_off2_wordsbf16 c r)
theorem pDst_exact (c : Dev nD) : (pDst c).view.WordExact := (Memref.isWhole_whole _).wordExact_slice rfl _ (k0_off1_wordsbf16 c)

/-- A device's own block: the rows it keeps. -/
abbrev pKeepRect (c : Dev nD) : Rect S2048x64 := Rect.unit (s := S2048x64) (k0_off3 c) S64x64.size (k0_off3_inb c)

/-! ## The devices the operations name -/

/-- The device the `r`-th entry signal names. -/
def sigDev (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩]

/-- The device the `r`-th send names. -/
def sendDev (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩,
    ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩,
    ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩,
    ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩]

/-- The device `r + 1` further on. -/
def peer (c : Dev nD) (r : Fin 31) : Dev nD := ⟨(c.val + (r.val + 1)) % 32, Nat.mod_lt _ (by decide)⟩

/-- The entry signals and the sends both name the device `r + 1` further on. -/
theorem sigDev_eq (c : Dev nD) (r : Fin 31) : sigDev c r = peer c r := by
  fin_cases r
  exacts [Fin.ext (k0_dev1_eq c), Fin.ext (k0_dev2_eq c), Fin.ext (k0_dev3_eq c), Fin.ext (k0_dev4_eq c), Fin.ext (k0_dev5_eq c), Fin.ext (k0_dev6_eq c), Fin.ext (k0_dev7_eq c), Fin.ext (k0_dev8_eq c), Fin.ext (k0_dev9_eq c), Fin.ext (k0_dev10_eq c), Fin.ext (k0_dev11_eq c), Fin.ext (k0_dev12_eq c), Fin.ext (k0_dev13_eq c), Fin.ext (k0_dev14_eq c), Fin.ext (k0_dev15_eq c), Fin.ext (k0_dev16_eq c), Fin.ext (k0_dev17_eq c), Fin.ext (k0_dev18_eq c), Fin.ext (k0_dev19_eq c), Fin.ext (k0_dev20_eq c), Fin.ext (k0_dev21_eq c), Fin.ext (k0_dev22_eq c), Fin.ext (k0_dev23_eq c), Fin.ext (k0_dev24_eq c), Fin.ext (k0_dev25_eq c), Fin.ext (k0_dev26_eq c), Fin.ext (k0_dev27_eq c), Fin.ext (k0_dev28_eq c), Fin.ext (k0_dev29_eq c), Fin.ext (k0_dev30_eq c), Fin.ext (k0_dev31_eq c)]
theorem sendDev_eq (c : Dev nD) (r : Fin 31) : sendDev c r = peer c r := by
  fin_cases r
  exacts [Fin.ext (k0_dev32_eq c), Fin.ext (k0_dev33_eq c), Fin.ext (k0_dev34_eq c), Fin.ext (k0_dev35_eq c), Fin.ext (k0_dev36_eq c), Fin.ext (k0_dev37_eq c), Fin.ext (k0_dev38_eq c), Fin.ext (k0_dev39_eq c), Fin.ext (k0_dev40_eq c), Fin.ext (k0_dev41_eq c), Fin.ext (k0_dev42_eq c), Fin.ext (k0_dev43_eq c), Fin.ext (k0_dev44_eq c), Fin.ext (k0_dev45_eq c), Fin.ext (k0_dev46_eq c), Fin.ext (k0_dev47_eq c), Fin.ext (k0_dev48_eq c), Fin.ext (k0_dev49_eq c), Fin.ext (k0_dev50_eq c), Fin.ext (k0_dev51_eq c), Fin.ext (k0_dev52_eq c), Fin.ext (k0_dev53_eq c), Fin.ext (k0_dev54_eq c), Fin.ext (k0_dev55_eq c), Fin.ext (k0_dev56_eq c), Fin.ext (k0_dev57_eq c), Fin.ext (k0_dev58_eq c), Fin.ext (k0_dev59_eq c), Fin.ext (k0_dev60_eq c), Fin.ext (k0_dev61_eq c), Fin.ext (k0_dev62_eq c)]

/-! ## The indices, in program order -/

abbrev four : List (Fin 4) := [0, 1, 2, 3]
abbrev steps : List (Fin 31) := [0, 1, 2, 3, 4, 5, 6, 7, 8, 9, 10, 11, 12, 13, 14, 15, 16, 17, 18, 19, 20, 21, 22, 23, 24, 25, 26, 27, 28, 29, 30]
abbrev blocks : List (Fin 32) := [0, 1, 2, 3, 4, 5, 6, 7, 8, 9, 10, 11, 12, 13, 14, 15, 16, 17, 18, 19, 20, 21, 22, 23, 24, 25, 26, 27, 28, 29, 30, 31]

/-! ## One step of each kind, in front of the rest of the program, as printed -/

abbrev P (F : FTy → Type) : Type 1 := Prog (TpuEff nD τ sig (Elt F) Λ₀ .tc) PUnit

/-- Start the copy of the weight's columns `512 q` into slice `q`. -/
def copyStep (q : Fin 4) (k : P F) : P F :=
  .op (.enqueueDma (wSrc q) (.here (wDst q)) (.dma (wSem q)) (wSrc_exact q) (wDst_exact q) ⟨Or.inl rfl, trivial⟩) fun _ => k

/-- Signal the barrier semaphore of the device `r + 1` further on. -/
def sigStepP (c : Dev nD) (r : Fin 31) (k : P F) : P F :=
  .op (.semSignal (sigDev c r, .tc) barS (1#32 : BitVec 32).toInt) fun _ => k

/-- Wait for a signal from each of the other 31 devices. -/
def barStep (k : P F) : P F := .op (.semWait barS (31#32 : BitVec 32).toInt) fun _ => k

/-- Transpose block `t` of `x` into rows `64 t` of the transposed blocks. -/
def trStep (t : Fin 32) (k : P F) : P F :=
  .op (.load xM (tRect t).toLoadRect (View.loadsAt_vmem h_S64x64)) fun v =>
  .op (.load tM (tRect t).toLoadRect (View.loadsAt_vmem h_S64x64)) fun _ =>
  .op (.store tM (tRect t) (k0_pay2 v) Finset.univ (View.stores_vmem h_S64x64 ((Memref.isWhole_whole _).storeExact_slice rfl _ (packed_t t)) (fun _ => rfl)) (.inl rfl)) fun _ => k

/-- Send the transposed block to the device `r + 1` further on. -/
def sendStepP (c : Dev nD) (r : Fin 31) (k : P F) : P F :=
  .op (.enqueueDma (pSrc c r) (.remote (Dev.tc (sendDev c r)) (pDst c) (.dma (sendSem r.succ))) (.dma (recvSem r.succ)) (pSrc_exact c r) (pDst_exact c) ⟨⟨rfl, Or.inl rfl⟩, trivial⟩) fun _ => k

/-- Copy the device's own transposed block into its landing buffer. -/
def keepStepP (c : Dev nD) (k : P F) : P F :=
  .op (.load tM (pKeepRect c).toLoadRect (View.loadsAt_vmem h_S64x64)) fun v =>
  .op (.load cM (pKeepRect c).toLoadRect (View.loadsAt_vmem h_S64x64)) fun _ =>
  .op (.store cM (pKeepRect c) (k0_pay37 v) Finset.univ (View.stores_vmem h_S64x64 ((Memref.isWhole_whole _).storeExact_slice rfl _ (k0_off3_packedbf16 c)) (fun _ => rfl)) (.inl rfl)) fun _ => k

/-- Wait for the `r`-th send to have left and for the block of the device `r + 1` back to have landed. -/
def waitStepP (c : Dev nD) (r : Fin 31) (k : P F) : P F :=
  .op (.waitDma2 (sendSem r.succ) (pDst c) (pSrc c r) (pDst_exact c) (pSrc_exact c r)) fun _ =>
  .op (.waitDma2 (recvSem r.succ) (pSrc c r) (pDst c) (pSrc_exact c r) (pDst_exact c)) fun _ => k

/-- Wait for slice `q` of the weight, multiply, apply the activation and store columns `512 q` of the result. -/
def mulStep (q : Fin 4) (k : P F) : P F :=
  .op (.waitDma2 (wSem q) (wSrc q) (wDst q) (wSrc_exact q) (wDst_exact q)) fun _ =>
  .op (.load cM (Rect.unit (s := S2048x64) ![0, 0] S2048x64.size inb_S2048x64_S2048x64_0_0).toLoadRect (View.loadsAt_vmem h_S2048x64)) fun v =>
  .op (.load bM (bRect q).toLoadRect (View.loadsAt_vmem h_S1x2048x512)) fun w =>
  .op (.load oM (oRect q).toLoadRect (View.loadsAt_vmem h_S64x512)) fun _ =>
  .op (.store oM (oRect q) (k0_pay1 v w) Finset.univ (View.stores_vmem_bits_univ h_S64x512 rfl) (.inl rfl)) fun _ => k

/-- The body on device `c`, with the devices and the offsets as printed. -/
def progP (c : Dev nD) : P F :=
  four.foldr copyStep <| steps.foldr (sigStepP c) <| barStep <| blocks.foldr trStep <| steps.foldr (sendStepP c) <|
    keepStepP c <| steps.foldr (waitStepP c) <| four.foldr mulStep (.ret ⟨⟩)

set_option maxRecDepth 100000 in
/-- The printed body reads its device's number and then runs the program at it. -/
theorem body_eq : cc0_body (F := F) (Memref.whole cc0_stg0_0) (Memref.isWhole_whole _) (Memref.whole main_arg1) (Memref.isWhole_whole _)
      (Memref.whole cc0_stg1_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4 cc0_scratch5
    = .op .deviceId fun c => progP c := rfl

/-! ## The same program with the devices and the rows in closed form

The sender's number and the receiver's number enter the printed offsets through word arithmetic; their closed forms
(`64` times the device's number) turn every slice into one of the 32 row blocks `tRect t`. -/

/-- Row block `t` of the transposed blocks, and of the landing buffer. -/
abbrev tBlk (t : Fin 32) : Memref sig .tc .vmem S64x64 .bf16 := tM.slice (tRect t) (fun _ => rfl)
abbrev cBlk (t : Fin 32) : Memref sig .tc .vmem S64x64 .bf16 := cM.slice (tRect t) (fun _ => rfl)

theorem words_t : ∀ t : Fin 32, (tRect t).WholeWords (EltTy.packing .bf16) := by decide

theorem tBlk_exact (t : Fin 32) : (tBlk t).view.WordExact := (Memref.isWhole_whole _).wordExact_slice rfl _ (words_t t)
theorem cBlk_exact (t : Fin 32) : (cBlk t).view.WordExact := (Memref.isWhole_whole _).wordExact_slice rfl _ (words_t t)

/-- Signal the barrier semaphore of the device `r + 1` further on. -/
def sigStep (c : Dev nD) (r : Fin 31) (k : P F) : P F :=
  .op (.semSignal (peer c r, .tc) barS (1#32 : BitVec 32).toInt) fun _ => k

/-- Send row block `peer c r` to the device `peer c r`, into its row block `c`. -/
def sendStep (c : Dev nD) (r : Fin 31) (k : P F) : P F :=
  .op (.enqueueDma (tBlk (peer c r)) (.remote (Dev.tc (peer c r)) (cBlk c) (.dma (sendSem r.succ))) (.dma (recvSem r.succ))
    (tBlk_exact _) (cBlk_exact c) ⟨⟨rfl, Or.inl rfl⟩, trivial⟩) fun _ => k

/-- Copy row block `c` of the transposed blocks into row block `c` of the landing buffer. -/
def keepStep (c : Dev nD) (k : P F) : P F :=
  .op (.load tM (tRect c).toLoadRect (View.loadsAt_vmem h_S64x64)) fun v =>
  .op (.load cM (tRect c).toLoadRect (View.loadsAt_vmem h_S64x64)) fun _ =>
  .op (.store cM (tRect c) (k0_pay37 v) Finset.univ (View.stores_vmem h_S64x64 ((Memref.isWhole_whole _).storeExact_slice rfl _ (packed_t c)) (fun _ => rfl)) (.inl rfl)) fun _ => k

/-- Wait for the `r`-th send to have left and for the block of the device `r + 1` back to have landed. -/
def waitStep (c : Dev nD) (r : Fin 31) (k : P F) : P F :=
  .op (.waitDma2 (sendSem r.succ) (cBlk c) (tBlk (peer c r)) (cBlk_exact c) (tBlk_exact _)) fun _ =>
  .op (.waitDma2 (recvSem r.succ) (tBlk (peer c r)) (cBlk c) (tBlk_exact _) (cBlk_exact c)) fun _ => k

/-- The body on device `c`. -/
def prog (c : Dev nD) : P F :=
  four.foldr copyStep <| steps.foldr (sigStep c) <| barStep <| blocks.foldr trStep <| steps.foldr (sendStep c) <|
    keepStep c <| steps.foldr (waitStep c) <| four.foldr mulStep (.ret ⟨⟩)

theorem sigStepP_eq (c : Dev nD) (r : Fin 31) (k : P F) : sigStepP c r k = sigStep c r k := by
  unfold sigStepP sigStep; rw [sigDev_eq]

/-- What a send's offsets are, in closed form. -/
theorem off2_eq (c : Dev nD) (r : Fin 31) : k0_off2 c (BitVec.ofNat 32 (1 + r.val)) = ![64 * (peer c r).val, 0] := by
  rw [k0_off2_eq]; rfl

/-- A send at offsets equal to the closed ones is the send of the row blocks. -/
theorem sendStepP_aux (c n n' : Dev nD) (hn : n' = n) (r : Fin 31) (k : P F) (o o' : Fin 2 → Nat) (ho : o = ![64 * n.val, 0]) (ho' : o' = ![64 * c.val, 0])
    (i : ∀ a, o a + S64x64.size a ≤ S2048x64.size a) (i' : ∀ a, o' a + S64x64.size a ≤ S2048x64.size a)
    (w : (tM.slice (Rect.unit (s := S2048x64) o S64x64.size i) (fun _ => rfl) : Memref sig .tc .vmem S64x64 .bf16).view.WordExact)
    (w' : (cM.slice (Rect.unit (s := S2048x64) o' S64x64.size i') (fun _ => rfl) : Memref sig .tc .vmem S64x64 .bf16).view.WordExact) :
    (.op (.enqueueDma (tM.slice (Rect.unit (s := S2048x64) o S64x64.size i) (fun _ => rfl) : Memref sig .tc .vmem S64x64 .bf16)
        (.remote (Dev.tc n') (cM.slice (Rect.unit (s := S2048x64) o' S64x64.size i') (fun _ => rfl) : Memref sig .tc .vmem S64x64 .bf16) (.dma (sendSem r.succ)))
        (.dma (recvSem r.succ)) w w' ⟨⟨rfl, Or.inl rfl⟩, trivial⟩) fun _ => k : P F)
      = .op (.enqueueDma (tBlk n) (.remote (Dev.tc n) (cBlk c) (.dma (sendSem r.succ))) (.dma (recvSem r.succ))
          (tBlk_exact n) (cBlk_exact c) ⟨⟨rfl, Or.inl rfl⟩, trivial⟩) fun _ => k := by
  subst ho; subst ho'; subst hn; rfl

theorem sendStepP_eq (c : Dev nD) (r : Fin 31) (k : P F) : sendStepP c r k = sendStep c r k := by
  unfold sendStepP sendStep
  exact sendStepP_aux c (peer c r) (sendDev c r) (sendDev_eq c r) r k _ _ (off2_eq c r) (k0_off1_eq c) _ _ _ _

/-- The copy of the own block at offsets equal to the closed ones. -/
theorem keepStepP_aux (c : Dev nD) (k : P F) (o : Fin 2 → Nat) (ho : o = ![64 * c.val, 0]) (i : ∀ a, o a + S64x64.size a ≤ S2048x64.size a)
    (w : (cM.access (Rect.unit (s := S2048x64) o S64x64.size i)).StoreExact Finset.univ) :
    (.op (.load tM (Rect.unit (s := S2048x64) o S64x64.size i).toLoadRect (View.loadsAt_vmem h_S64x64)) fun v =>
      .op (.load cM (Rect.unit (s := S2048x64) o S64x64.size i).toLoadRect (View.loadsAt_vmem h_S64x64)) fun _ =>
      .op (.store cM (Rect.unit (s := S2048x64) o S64x64.size i) (k0_pay37 v) Finset.univ (View.stores_vmem h_S64x64 w (fun _ => rfl)) (.inl rfl)) fun _ => k : P F)
      = keepStep c k := by
  subst ho; rfl

theorem keepStepP_eq (c : Dev nD) (k : P F) : keepStepP c k = keepStep c k := by
  unfold keepStepP
  exact keepStepP_aux c k _ (k0_off3_eq c) (k0_off3_inb c)
    ((Memref.isWhole_whole _).storeExact_slice rfl _ (k0_off3_packedbf16 c))

/-- The pair of waits at offsets equal to the closed ones. -/
theorem waitStepP_aux (c n : Dev nD) (r : Fin 31) (k : P F) (o o' : Fin 2 → Nat) (ho : o = ![64 * n.val, 0]) (ho' : o' = ![64 * c.val, 0])
    (i : ∀ a, o a + S64x64.size a ≤ S2048x64.size a) (i' : ∀ a, o' a + S64x64.size a ≤ S2048x64.size a)
    (w : (tM.slice (Rect.unit (s := S2048x64) o S64x64.size i) (fun _ => rfl) : Memref sig .tc .vmem S64x64 .bf16).view.WordExact)
    (w' : (cM.slice (Rect.unit (s := S2048x64) o' S64x64.size i') (fun _ => rfl) : Memref sig .tc .vmem S64x64 .bf16).view.WordExact) :
    (.op (.waitDma2 (sendSem r.succ) (cM.slice (Rect.unit (s := S2048x64) o' S64x64.size i') (fun _ => rfl) : Memref sig .tc .vmem S64x64 .bf16)
        (tM.slice (Rect.unit (s := S2048x64) o S64x64.size i) (fun _ => rfl) : Memref sig .tc .vmem S64x64 .bf16) w' w) fun _ =>
      .op (.waitDma2 (recvSem r.succ) (tM.slice (Rect.unit (s := S2048x64) o S64x64.size i) (fun _ => rfl) : Memref sig .tc .vmem S64x64 .bf16)
        (cM.slice (Rect.unit (s := S2048x64) o' S64x64.size i') (fun _ => rfl) : Memref sig .tc .vmem S64x64 .bf16) w w') fun _ => k : P F)
      = .op (.waitDma2 (sendSem r.succ) (cBlk c) (tBlk n) (cBlk_exact c) (tBlk_exact n)) fun _ =>
        .op (.waitDma2 (recvSem r.succ) (tBlk n) (cBlk c) (tBlk_exact n) (cBlk_exact c)) fun _ => k := by
  subst ho; subst ho'; rfl

theorem waitStepP_eq (c : Dev nD) (r : Fin 31) (k : P F) : waitStepP c r k = waitStep c r k := by
  unfold waitStepP
  exact waitStepP_aux c (peer c r) r k _ _ (off2_eq c r) (k0_off1_eq c) _ _ _ _

/-- The printed program is the program in closed form. -/
theorem progP_eq (c : Dev nD) : (progP c : P F) = prog c := by
  have h1 : sigStepP (F := F) c = sigStep c := funext fun r => funext fun k => sigStepP_eq c r k
  have h2 : sendStepP (F := F) c = sendStep c := funext fun r => funext fun k => sendStepP_eq c r k
  have h3 : waitStepP (F := F) c = waitStep c := funext fun r => funext fun k => waitStepP_eq c r k
  have h4 : keepStepP (F := F) c = keepStep c := funext fun k => keepStepP_eq c k
  unfold progP prog; rw [h1, h2, h3, h4]

end Cert.KernelIdeal.Run

end
-- ==== Proof.Contents.lean ====
/-
The contents of the buffers, and the buffers cut into the pieces the copies move.

Every buffer's contents at the end of its phase is written here as a function of the blocks of `x` on all devices and
of the weight. A piece of a buffer is the set of elements under one slice; a buffer held whole is its pieces held.
-/
module

public import proofs.«01_k».proof.Proof.Steps
public import Idealize.ShloMosaic.Lib.Pipeline.Kit
public import Idealize.ShloMosaic.Lib.ValueLayout
public import Idealize.ShloMosaic.Lib.Ring
public import Idealize.ShloMosaic.Lib.Pipeline.ValueKit.Geometry

@[expose] public section

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.BI
open scoped Idealize.SL.BI

variable {F : FTy → Type} [FloatOps F]

/-! ## Positions -/

/-- The row block a position of a `2048 × 64` buffer lies in, and its place there. -/
def rowOf (i : S2048x64.Idx) : Fin 32 := ⟨(i 0).val / 64, by have : (i 0).val < 2048 := (i 0).isLt; omega⟩
def inRow (i : S2048x64.Idx) : S64x64.Idx := ix2 ⟨(i 0).val % 64, Nat.mod_lt _ (by decide)⟩ (i 1)

/-- The column block a position of a `64 × 2048` buffer lies in, and its place there. -/
def colOf (i : S64x2048.Idx) : Fin 4 := ⟨(i 1).val / 512, by have : (i 1).val < 2048 := (i 1).isLt; omega⟩
def inCol (i : S64x2048.Idx) : S64x512.Idx := ix2 (i 0) ⟨(i 1).val % 512, Nat.mod_lt _ (by decide)⟩

theorem tRect_emb (t : Fin 32) (j : S64x64.Idx) : (tRect t).emb j = ix2 ⟨64 * t.val + (j 0).val, by have : (j 0).val < 64 := (j 0).isLt; have := t.isLt; omega⟩ (j 1) := by
  funext a; refine Fin.ext ?_
  rw [ValueKit.rect_emb_unit_val]
  fin_cases a
  · rfl
  · exact Nat.zero_add _

theorem oRect_emb (q : Fin 4) (j : S64x512.Idx) : (oRect q).emb j = ix2 (j 0) ⟨512 * q.val + (j 1).val, by have : (j 1).val < 512 := (j 1).isLt; have := q.isLt; omega⟩ := by
  funext a; refine Fin.ext ?_
  rw [ValueKit.rect_emb_unit_val]
  fin_cases a
  · exact Nat.zero_add _
  · rfl

theorem rowOf_emb (t : Fin 32) (j : S64x64.Idx) : rowOf ((tRect t).emb j) = t := by
  rw [tRect_emb]; refine Fin.ext ?_
  have : (j 0).val < 64 := (j 0).isLt
  show (64 * t.val + (j 0).val) / 64 = t.val
  omega

theorem inRow_emb (t : Fin 32) (j : S64x64.Idx) : inRow ((tRect t).emb j) = j := by
  rw [tRect_emb]; funext a; refine Fin.ext ?_
  have : (j 0).val < 64 := (j 0).isLt
  fin_cases a
  · show (64 * t.val + (j 0).val) % 64 = (j 0).val
    omega
  · rfl

theorem emb_rowOf (i : S2048x64.Idx) : (tRect (rowOf i)).emb (inRow i) = i := by
  rw [tRect_emb]; funext a; refine Fin.ext ?_
  fin_cases a
  · show 64 * ((i 0).val / 64) + (i 0).val % 64 = (i 0).val
    omega
  · rfl

theorem colOf_emb (q : Fin 4) (j : S64x512.Idx) : colOf ((oRect q).emb j) = q := by
  rw [oRect_emb]; refine Fin.ext ?_
  have : (j 1).val < 512 := (j 1).isLt
  show (512 * q.val + (j 1).val) / 512 = q.val
  omega

theorem inCol_emb (q : Fin 4) (j : S64x512.Idx) : inCol ((oRect q).emb j) = j := by
  rw [oRect_emb]; funext a; refine Fin.ext ?_
  have : (j 1).val < 512 := (j 1).isLt
  fin_cases a
  · rfl
  · show (512 * q.val + (j 1).val) % 512 = (j 1).val
    omega

theorem emb_colOf (i : S64x2048.Idx) : (oRect (colOf i)).emb (inCol i) = i := by
  rw [oRect_emb]; funext a; refine Fin.ext ?_
  fin_cases a
  · rfl
  · show 512 * ((i 1).val / 512) + (i 1).val % 512 = (i 1).val
    omega

/-- Membership in the rectangles. -/
theorem mem_tRect {t : Fin 32} {i : S2048x64.Idx} : i ∈ (tRect t).set ↔ rowOf i = t := by
  constructor
  · intro h
    have h0 := (Rect.mem_set_unit.mp h) 0
    refine Fin.ext ?_
    have h1 : 64 * t.val ≤ (i 0).val ∧ (i 0).val < 64 * t.val + 64 := h0
    show (i 0).val / 64 = t.val
    omega
  · rintro rfl
    rw [← emb_rowOf i, rowOf_emb]
    exact Rect.map_emb_univ (tRect (rowOf i)) ▸ Finset.mem_map_of_mem _ (Finset.mem_univ _)

theorem mem_oRect {q : Fin 4} {i : S64x2048.Idx} : i ∈ (oRect q).set ↔ colOf i = q := by
  constructor
  · intro h
    have h0 := (Rect.mem_set_unit.mp h) 1
    refine Fin.ext ?_
    have h1 : 512 * q.val ≤ (i 1).val ∧ (i 1).val < 512 * q.val + 512 := h0
    show (i 1).val / 512 = q.val
    omega
  · rintro rfl
    rw [← emb_colOf i, colOf_emb]
    exact Rect.map_emb_univ (oRect (colOf i)) ▸ Finset.mem_map_of_mem _ (Finset.mem_univ _)

theorem mem_wRect {q : Fin 4} {i : S2048x2048.Idx} : i ∈ (wRect q).set ↔ (i 1).val / 512 = q.val := by
  rw [Rect.mem_set_unit, Fin.forall_fin_two]
  show (0 ≤ (i 0).val ∧ (i 0).val < 0 + 2048) ∧ (512 * q.val ≤ (i 1).val ∧ (i 1).val < 512 * q.val + 512) ↔ _
  have : (i 0).val < 2048 := (i 0).isLt
  omega

theorem mem_bRect {q : Fin 4} {i : S4x2048x512.Idx} : i ∈ (bRect q).set ↔ (i 0).val = q.val := by
  rw [Rect.mem_set_unit]
  constructor
  · intro h
    have h0 : q.val ≤ (i 0).val ∧ (i 0).val < q.val + 1 := h 0
    omega
  · intro h a
    fin_cases a
    · show q.val ≤ (i 0).val ∧ (i 0).val < q.val + 1
      omega
    · exact ⟨Nat.zero_le _, (Nat.zero_add 2048).symm ▸ (i 1).isLt⟩
    · exact ⟨Nat.zero_le _, (Nat.zero_add 512).symm ▸ (i 2).isLt⟩

/-! ## The contents -/

/-- The types of the contents. -/
abbrev XC (F : FTy → Type) : Type := S2048x64.Idx → Elt F .bf16
abbrev WC (F : FTy → Type) : Type := S2048x2048.Idx → Elt F .bf16
abbrev BC (F : FTy → Type) : Type := S4x2048x512.Idx → Elt F .bf16
abbrev OC (F : FTy → Type) : Type := S64x2048.Idx → Elt F .f32

/-- The transposed blocks of a device whose block of `x` is `x`: row block `t` is row block `t` of `x`, transposed. -/
def xtF (x : XC F) : XC F := fun i => k0_pay2 (fun j => x ((tRect (rowOf i)).emb j)) (inRow i)

/-- The landing buffer of device `c` after all blocks have landed: row block `s` is device `s`'s transposed block `c`. -/
def landF (X : Dev nD → XC F) (c : Dev nD) : XC F := fun i => xtF (X (rowOf i)) ((tRect c).emb (inRow i))

/-- The weight's buffer after its four copies: slice `q` is the weight's columns from `512 q`. -/
def bufF (w : WC F) : BC F := fun i =>
  w (ix2 (i 1) ⟨512 * (i 0).val + (i 2).val, by have : (i 0).val < 4 := (i 0).isLt; have : (i 2).val < 512 := (i 2).isLt; omega⟩)

/-- The result of device `c`: column block `q` is the activation of the landed blocks' product with slice `q`. -/
def outF (X : Dev nD → XC F) (w : WC F) (c : Dev nD) : OC F := fun i =>
  k0_pay1 (landF X c) (fun j => bufF w ((bRect (colOf i)).emb j)) (inCol i)

omit [FloatOps F] in
/-- A copy of a block of equal shape keeps it. -/
theorem pay37_eq (v : Vec F S64x64 .bf16) : k0_pay37 v = v := shapeCast_self v _

theorem xtF_emb (x : XC F) (t : Fin 32) (j : S64x64.Idx) : xtF x ((tRect t).emb j) = k0_pay2 (fun j => x ((tRect t).emb j)) j := by
  unfold xtF; rw [rowOf_emb, inRow_emb]

theorem landF_emb (X : Dev nD → XC F) (c s : Dev nD) (j : S64x64.Idx) : landF X c ((tRect s).emb j) = xtF (X s) ((tRect c).emb j) := by
  unfold landF; rw [rowOf_emb, inRow_emb]

theorem outF_emb (X : Dev nD → XC F) (w : WC F) (c : Dev nD) (q : Fin 4) (j : S64x512.Idx) :
    outF X w c ((oRect q).emb j) = k0_pay1 (landF X c) (fun j => bufF w ((bRect q).emb j)) j := by
  unfold outF; rw [colOf_emb, inCol_emb]

/-! ## What the copies and the stores leave -/

/-- A write through a view of what contents `g` read through it agrees with `g` on the view's elements. -/
theorem write_eq_on {κ : Kind} {sp : Space} {s : Shape} {e : EltTy} {Val : EltTy → Type} (v : View sig κ sp s e) (f g : v.ty.Contents Val)
    (w : s.Idx → Val e) (h : v.read Val g = w) : ∀ i ∈ v.set, v.write Val f w Finset.univ i = g i := by
  intro i hi
  rw [View.set, Finset.mem_map] at hi
  obtain ⟨x, -, rfl⟩ := hi
  rw [View.write_emb_of_mem f w (Finset.mem_univ x), ← h, View.read_apply, cast_cast, cast_eq]

omit [FloatOps F] in
/-- Reading row block `t`, column block `q`, slice `q`. -/
theorem read_tBlk (t : Fin 32) (f : XC F) : (tBlk t).view.read (Elt F) f = fun j => f ((tRect t).emb j) := rfl
omit [FloatOps F] in
theorem read_cBlk (t : Fin 32) (f : XC F) : (cBlk t).view.read (Elt F) f = fun j => f ((tRect t).emb j) := rfl
omit [FloatOps F] in
theorem read_wSrc (q : Fin 4) (f : WC F) : (wSrc q).view.read (Elt F) f = fun j => f ((wRect q).emb j) := rfl
omit [FloatOps F] in
theorem read_wDst (q : Fin 4) (f : BC F) :
    (wDst q).view.read (Elt F) f = fun j => f ((bRect q).emb (Shape.reshapeEquiv squeezes_S1x2048x512_S2048x512.numel_eq j)) := rfl

/-- A landed block is the landing contents' block. -/
theorem landed_read (X : Dev nD → XC F) (c s : Dev nD) : (cBlk s).view.read (Elt F) (landF X c) = (tBlk c).view.read (Elt F) (xtF (X s)) := by
  rw [read_cBlk, read_tBlk]; funext j; exact landF_emb X c s j

omit [FloatOps F] in
/-- A landed slice of the weight is the weight buffer's slice. -/
theorem slice_read (w : WC F) (q : Fin 4) : (wDst q).view.read (Elt F) (bufF w) = (wSrc q).view.read (Elt F) w := by
  rw [read_wDst, read_wSrc]; funext j
  obtain ⟨a, b, rfl⟩ : ∃ (a : Fin 2048) (b : Fin 512), j = ix2 a b := ⟨j 0, j 1, eq_ix2 j⟩
  rw [reshapeEquiv_ix2_1ab]
  unfold bufF
  congr 1
  funext x; refine Fin.ext ?_
  fin_cases x
  · show ((bRect q).emb (ix3 _ a b) 1).val = ((wRect q).emb (ix2 a b) 0).val
    rw [ValueKit.rect_emb_unit_val, ValueKit.rect_emb_unit_val]; rfl
  · show 512 * ((bRect q).emb (ix3 _ a b) 0).val + ((bRect q).emb (ix3 _ a b) 2).val = ((wRect q).emb (ix2 a b) 1).val
    rw [ValueKit.rect_emb_unit_val, ValueKit.rect_emb_unit_val, ValueKit.rect_emb_unit_val]
    show 512 * (q.val + 0) + (0 + b.val) = 512 * q.val + b.val
    omega

/-! ## The pieces -/

section Pieces

variable {Ix : Type} [DecidableEq Ix] {Name : Type} [DecidableEq Name] {U : Type} [URA U] {Lvl : Type}
local notation "𝕄" => MT nD τ sig Ix (Elt F) Name U Lvl

/-- Row block `t` of the transposed blocks on device `c`, held at contents `f`; of the landing buffer; column block `q` of the weight;
    slice `q` of its buffer. -/
def tPts (c : Dev nD) (t : Fin 32) (f : XC F) : sProp 𝕄 := (tBlk t).view.loc (c : Thread nD τ) ↦[(tBlk t).view.set]{fullShare} f
def cPts (c : Dev nD) (t : Fin 32) (f : XC F) : sProp 𝕄 := (cBlk t).view.loc (c : Thread nD τ) ↦[(cBlk t).view.set]{fullShare} f
def wPts (c : Dev nD) (q : Fin 4) (f : WC F) : sProp 𝕄 := (wSrc q).view.loc (c : Thread nD τ) ↦[(wSrc q).view.set]{fullShare} f
def bPts (c : Dev nD) (q : Fin 4) (f : BC F) : sProp 𝕄 := (wDst q).view.loc (c : Thread nD τ) ↦[(wDst q).view.set]{fullShare} f

omit [FloatOps F] in
/-- Each buffer held whole is its pieces held. -/
theorem tWhole (c : Dev nD) (f : XC F) :
    (((c : Thread nD τ).loc cc0_scratch0 ↦{fullShare} (show Buf (Elt F) ((c : Thread nD τ).loc cc0_scratch0) from f)) : sProp 𝕄)
      = bigSep Finset.univ fun t => tPts c t f :=
  Ring.pointsTo_blocks (ℓ := (c : Thread nD τ).loc cc0_scratch0) (fun t : Fin 32 => (tBlk t).view.set)
    (fun t t' h => by
      refine Finset.disjoint_left.mpr fun i hi hi' => h ?_
      have h1 := (View.set_slice_whole cc0_scratch0 (tRect t)) ▸ hi
      have h2 := (View.set_slice_whole cc0_scratch0 (tRect t')) ▸ hi'
      exact (mem_tRect.mp h1).symm.trans (mem_tRect.mp h2))
    (by
      refine Finset.eq_univ_iff_forall.mpr fun i => Finset.mem_biUnion.mpr ⟨rowOf i, Finset.mem_univ _, ?_⟩
      exact (View.set_slice_whole cc0_scratch0 (tRect (rowOf i))) ▸ mem_tRect.mpr rfl) f

omit [FloatOps F] in
theorem cWhole (c : Dev nD) (f : XC F) :
    (((c : Thread nD τ).loc cc0_scratch1 ↦{fullShare} (show Buf (Elt F) ((c : Thread nD τ).loc cc0_scratch1) from f)) : sProp 𝕄)
      = bigSep Finset.univ fun t => cPts c t f :=
  Ring.pointsTo_blocks (ℓ := (c : Thread nD τ).loc cc0_scratch1) (fun t : Fin 32 => (cBlk t).view.set)
    (fun t t' h => by
      refine Finset.disjoint_left.mpr fun i hi hi' => h ?_
      have h1 := (View.set_slice_whole cc0_scratch1 (tRect t)) ▸ hi
      have h2 := (View.set_slice_whole cc0_scratch1 (tRect t')) ▸ hi'
      exact (mem_tRect.mp h1).symm.trans (mem_tRect.mp h2))
    (by
      refine Finset.eq_univ_iff_forall.mpr fun i => Finset.mem_biUnion.mpr ⟨rowOf i, Finset.mem_univ _, ?_⟩
      exact (View.set_slice_whole cc0_scratch1 (tRect (rowOf i))) ▸ mem_tRect.mpr rfl) f

omit [FloatOps F] in
theorem wWhole (c : Dev nD) (f : WC F) :
    (((c : Thread nD τ).loc main_arg1 ↦{fullShare} (show Buf (Elt F) ((c : Thread nD τ).loc main_arg1) from f)) : sProp 𝕄)
      = bigSep Finset.univ fun q => wPts c q f :=
  Ring.pointsTo_blocks (ℓ := (c : Thread nD τ).loc main_arg1) (fun q : Fin 4 => (wSrc q).view.set)
    (fun t t' h => by
      refine Finset.disjoint_left.mpr fun i hi hi' => h (Fin.ext ?_)
      have h1 := (View.set_slice_whole main_arg1 (wRect t)) ▸ hi
      have h2 := (View.set_slice_whole main_arg1 (wRect t')) ▸ hi'
      exact (mem_wRect.mp h1).symm.trans (mem_wRect.mp h2))
    (by
      refine Finset.eq_univ_iff_forall.mpr fun i => ?_
      have hi : ((show S2048x2048.Idx from i) 1).val < 2048 := ((show S2048x2048.Idx from i) 1).isLt
      refine Finset.mem_biUnion.mpr ⟨⟨((show S2048x2048.Idx from i) 1).val / 512, by omega⟩, Finset.mem_univ _, ?_⟩
      exact (View.set_slice_whole main_arg1 (wRect _)) ▸ mem_wRect.mpr rfl) f

omit [FloatOps F] in
/-- The elements under the squeezed slice are the slice's. -/
theorem wDst_set (q : Fin 4) : (wDst q).view.set = (bRect q).set :=
  (View.set_reshape _ _).trans (View.set_slice_whole cc0_scratch2 (bRect q))

omit [FloatOps F] in
theorem bWhole (c : Dev nD) (f : BC F) :
    (((c : Thread nD τ).loc cc0_scratch2 ↦{fullShare} (show Buf (Elt F) ((c : Thread nD τ).loc cc0_scratch2) from f)) : sProp 𝕄)
      = bigSep Finset.univ fun q => bPts c q f :=
  Ring.pointsTo_blocks (ℓ := (c : Thread nD τ).loc cc0_scratch2) (fun q : Fin 4 => (wDst q).view.set)
    (fun t t' h => by
      refine Finset.disjoint_left.mpr fun i hi hi' => h (Fin.ext ?_)
      have h1 := (wDst_set t) ▸ hi
      have h2 := (wDst_set t') ▸ hi'
      exact (mem_bRect.mp h1).symm.trans (mem_bRect.mp h2))
    (by
      refine Finset.eq_univ_iff_forall.mpr fun i => ?_
      have hi : ((show S4x2048x512.Idx from i) 0).val < 4 := ((show S4x2048x512.Idx from i) 0).isLt
      refine Finset.mem_biUnion.mpr ⟨⟨((show S4x2048x512.Idx from i) 0).val, hi⟩, Finset.mem_univ _, ?_⟩
      exact (wDst_set _) ▸ mem_bRect.mpr rfl) f

end Pieces

end Cert.KernelIdeal.Run

end
-- ==== Proof.Protocol.lean ====
/-
The protocol of the semaphores.

On every device: the barrier semaphore, which each of the other 31 devices signals once; 32 send and 32 receive
semaphores, of which those numbered from 1 count one transfer each; 4 semaphores for the weight's copies. Each is used
for one round. What the payer of a duty hands over:
  * the device `r + 1` further on, signalling the barrier of `c`: its landing rows `c`, in any contents;
  * the transfer numbered `r + 1`, leaving `c`: the rows sent, back;
  * the transfer numbered `r + 1`, landing on `c`: the rows of the sender, holding the sender's transposed block `c`;
  * a copy of the weight: its slice of the buffer, holding the weight's columns, and those columns back.
-/
module

public import proofs.«01_k».proof.Proof.Contents
public import proofs.«01_k».proof.Proof.Gen.KernelIdeal.Launch
public import Idealize.ShloMosaic.Lib.Pipeline.Launch
public import Idealize.ShloMosaic.Lib.Rounds

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's cells and the protocol's, whose duties are numbered by the step `r`. -/
abbrev UB : Type := URounds (GSem nD τ sig) (Fin 31)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## The semaphores -/

/-- The kernel's own semaphores: send, receive, weight. -/
abbrev OwnK : Type := Fin 32 ⊕ Fin 32 ⊕ Fin 4
/-- With the barrier. -/
abbrev CK : Type := Unit ⊕ OwnK

abbrev kBar : CK := .inl ()
abbrev kSend (i : Fin 32) : CK := .inr (.inl i)
abbrev kRecv (i : Fin 32) : CK := .inr (.inr (.inl i))
abbrev kW (q : Fin 4) : CK := .inr (.inr (.inr q))

abbrev osem : OwnK → SemLoc sig
  | .inl i => .dma (sendSem i)
  | .inr (.inl i) => .dma (recvSem i)
  | .inr (.inr q) => .dma (wSem q)
abbrev csem : CK → SemLoc sig
  | .inl _ => .reg barS
  | .inr k => osem k

theorem sendSem_val : ∀ i : Fin 32, (sendSem i).val = 2 + i.val := by decide
theorem recvSem_val : ∀ i : Fin 32, (recvSem i).val = 34 + i.val := by decide
theorem wSem_val : ∀ q : Fin 4, (wSem q).val = 66 + q.val := by decide

/-- A number for each semaphore, which tells them apart. -/
def semNo : SemLoc sig → ℕ
  | .reg _ => 0
  | .dma q => q.val + 1

theorem csem_injective : Function.Injective csem := by
  intro k k' h
  have h' := congrArg semNo h
  rcases k with ⟨⟩ | i | i | i <;> rcases k' with ⟨⟩ | i' | i' | i' <;>
    first
      | rfl
      | (simp only [csem, osem, semNo, sendSem_val, recvSem_val, wSem_val] at h'
         first
           | (exfalso; omega)
           | (have : i = i' := Fin.ext (by omega)
              subst this; rfl))

/-- The cell of semaphore `k` on device `c`. -/
abbrev kcell (ck : Dev nD × CK) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which of them a semaphore is. -/
def kind : SemLoc sig → Option CK := Function.partialInv csem
theorem kind_csem (k : CK) : kind (csem k) = some k := Function.partialInv_left csem_injective k
theorem csem_of_kind {sm : SemLoc sig} {k : CK} (h : kind sm = some k) : csem k = sm :=
  (Function.partialInv_of_injective csem_injective k sm).mp h

/-! ## The devices -/

/-- Going `r + 1` on and then the complementary number of steps on comes back. -/
theorem peer_rev (c : Dev nD) (r : Fin 31) : peer (peer c r) r.rev = c := by
  refine Fin.ext ?_
  have hc : c.val < 32 := c.isLt
  have hr : r.val < 31 := r.isLt
  show ((c.val + (r.val + 1)) % 32 + (r.rev.val + 1)) % 32 = c.val
  rw [Fin.val_rev]; omega
theorem peer_rev' (c : Dev nD) (r : Fin 31) : peer (peer c r.rev) r = c := by
  have := peer_rev c r.rev
  rwa [Fin.rev_rev] at this
theorem peer_ne (c : Dev nD) (r : Fin 31) : peer c r ≠ c := by
  intro h
  have h' : (c.val + (r.val + 1)) % 32 = c.val := congrArg Fin.val h
  have hc : c.val < 32 := c.isLt
  have hr : r.val < 31 := r.isLt
  omega
theorem peer_injective (c : Dev nD) : Function.Injective (peer c) := by
  intro r r' h
  have h' : (c.val + (r.val + 1)) % 32 = (c.val + (r'.val + 1)) % 32 := congrArg Fin.val h
  have hc : c.val < 32 := c.isLt
  have hr : r.val < 31 := r.isLt
  have hr' : r'.val < 31 := r'.isLt
  exact Fin.ext (by omega)
/-- Every other device is some number of steps on. -/
theorem exists_peer {c d : Dev nD} (h : d ≠ c) : ∃ r, peer c r = d := by
  have hc : c.val < 32 := c.isLt
  have hd : d.val < 32 := d.isLt
  have hne : d.val ≠ c.val := fun e => h (Fin.ext e)
  refine ⟨⟨(d.val + 32 - c.val - 1) % 32, by omega⟩, Fin.ext ?_⟩
  show (c.val + ((d.val + 32 - c.val - 1) % 32 + 1)) % 32 = d.val
  omega
/-- Going `r + 1` on is a permutation of the devices. -/
def peerEquiv (r : Fin 31) : Dev nD ≃ Dev nD := ⟨fun c => peer c r, fun c => peer c r.rev, fun c => peer_rev c r, fun c => peer_rev' c r⟩

/-! ## The schedule -/

/-- The credit of one transferred block, of one copy of the weight. -/
@[irreducible] def N : ℕ := (cBlk 0).view.dmaCredit
@[irreducible] def NW : ℕ := (wDst 0).view.dmaCredit
theorem N_eq : N = (cBlk 0).view.dmaCredit := by unfold N; rfl
theorem NW_eq : NW = (wDst 0).view.dmaCredit := by unfold NW; rfl
theorem N_pos : 0 < N := N_eq ▸ View.dmaCredit_pos _ (by decide)
theorem NW_pos : 0 < NW := NW_eq ▸ View.dmaCredit_pos _ (by decide)

/-- The duties of a semaphore's one round, and the amount each adds. -/
def dut : CK → Finset (Fin 31)
  | .inl _ => Finset.univ
  | .inr (.inl i) => Fin.cases ∅ (fun _ => {0}) i
  | .inr (.inr (.inl i)) => Fin.cases ∅ (fun _ => {0}) i
  | .inr (.inr (.inr _)) => {0}
def amt : CK → ℕ
  | .inl _ => 1
  | .inr (.inl _) => N
  | .inr (.inr (.inl _)) => N
  | .inr (.inr (.inr _)) => NW
theorem amt_pos (k : CK) : 0 < amt k := by
  rcases k with _ | _ | _ | _
  exacts [Nat.one_pos, N_pos, N_pos, NW_pos]

variable (X : Dev nD → XC F) (W : Dev nD → WC F)

/-- What a duty hands over. -/
def pay (c : Dev nD) : CK → Fin 31 → sProp 𝕄
  | .inl _, d => iprop(∃ f, cPts (peer c d) c f)
  | .inr (.inl i), _ => Fin.cases iprop(emp) (fun r => tPts c (peer c r) (xtF (X c))) i
  | .inr (.inr (.inl i)), _ => Fin.cases iprop(emp) (fun r => cPts c (peer c r.rev) (landF X c)) i
  | .inr (.inr (.inr q)), _ => iprop(bPts c q (bufF (W c)) ∗ wPts c q (W c))

omit [FloatOps F] in
instance tPts_storable (c : Dev nD) (t : Fin 32) (f : XC F) : BI.Storable (upEmb : UEmb _ 𝕄) (tPts c t f) := by unfold tPts; infer_instance
omit [FloatOps F] in
instance cPts_storable (c : Dev nD) (t : Fin 32) (f : XC F) : BI.Storable (upEmb : UEmb _ 𝕄) (cPts c t f) := by unfold cPts; infer_instance
omit [FloatOps F] in
instance wPts_storable (c : Dev nD) (q : Fin 4) (f : WC F) : BI.Storable (upEmb : UEmb _ 𝕄) (wPts c q f) := by unfold wPts; infer_instance
omit [FloatOps F] in
instance bPts_storable (c : Dev nD) (q : Fin 4) (f : BC F) : BI.Storable (upEmb : UEmb _ 𝕄) (bPts c q f) := by unfold bPts; infer_instance

theorem pay_storable (c : Dev nD) (k : CK) (d : Fin 31) : BI.Storable (upEmb : UEmb _ 𝕄) (pay X W c k d) := by
  rcases k with _ | i | i | q
  · unfold pay; infer_instance
  · unfold pay; induction i using Fin.cases <;> (simp only [Fin.cases_zero, Fin.cases_succ]; infer_instance)
  · unfold pay; induction i using Fin.cases <;> (simp only [Fin.cases_zero, Fin.cases_succ]; infer_instance)
  · unfold pay; infer_instance

/-- One round, round 0, at every cell of the protocol. -/
def rd : Rounds.Schedule (GSem nD τ sig) (Fin 31) 𝕄 where
  duties g r := if g.1.2 = .tc ∧ r = 0 then (kind g.2).elim ∅ dut else ∅
  unitless _ := False
  amount g _ _ := (kind g.2).elim 1 amt
  payload g _ d := (kind g.2).elim iprop(emp) fun k => pay X W g.1.1 k d
  amount_pos g _ _ _ := by
    cases kind g.2 with
    | none => exact Nat.one_pos
    | some k => exact amt_pos k

instance rd_payload_storable (g : GSem nD τ sig) (r : ℕ) (d : Fin 31) : BI.Storable (upEmb : UEmb _ 𝕄) ((rd X W).payload g r d) := by
  show BI.Storable upEmb ((kind g.2).elim iprop(emp) fun k => pay X W g.1.1 k d)
  cases kind g.2 with
  | none => show BI.Storable upEmb (iprop(emp) : sProp 𝕄); infer_instance
  | some k => exact pay_storable X W g.1.1 k d

section Tables
variable (c : Dev nD) (k : CK)

theorem duties_at : (rd X W).duties (kcell (c, k)) 0 = dut k := by
  show (if (kcell (c, k)).1.2 = .tc ∧ (0 : ℕ) = 0 then (kind (csem k)).elim ∅ dut else ∅) = _
  rw [if_pos ⟨rfl, rfl⟩, kind_csem]; rfl
theorem duties_later (g : GSem nD τ sig) : ∀ r, 1 ≤ r → (rd X W).duties g r = ∅ :=
  fun r hr => if_neg fun h => by have := h.2; omega
theorem amount_at (r : ℕ) (d : Fin 31) : (rd X W).amount (kcell (c, k)) r d = amt k := by
  show (kind (csem k)).elim 1 amt = _
  rw [kind_csem]; rfl
theorem payload_at (r : ℕ) (d : Fin 31) : (rd X W).payload (kcell (c, k)) r d = pay X W c k d := by
  show (kind (csem k)).elim iprop(emp) (fun k => pay X W c k d) = _
  rw [kind_csem]; rfl

/-- What a semaphore counts to in its round. -/
theorem expect_at : (rd X W).expect (kcell (c, k)) 0 = (dut k).card * amt k := by
  unfold Schedule.expect Schedule.amountOf
  rw [duties_at, Finset.sum_congr rfl fun d _ => amount_at X W c k 0 d, Finset.sum_const, smul_eq_mul]
theorem expect_bar : (rd X W).expect (kcell (c, kBar)) 0 = 31 := by
  rw [expect_at]; rfl
theorem expect_send (r : Fin 31) : (rd X W).expect (kcell (c, kSend r.succ)) 0 = N := by
  rw [expect_at]; exact (congrArg (· * N) (Finset.card_singleton (0 : Fin 31))).trans (Nat.one_mul N)
theorem expect_recv (r : Fin 31) : (rd X W).expect (kcell (c, kRecv r.succ)) 0 = N := by
  rw [expect_at]; exact (congrArg (· * N) (Finset.card_singleton (0 : Fin 31))).trans (Nat.one_mul N)
theorem expect_w (q : Fin 4) : (rd X W).expect (kcell (c, kW q)) 0 = NW := by
  rw [expect_at]; exact (congrArg (· * NW) (Finset.card_singleton (0 : Fin 31))).trans (Nat.one_mul NW)

/-- What a completed round hands its waiter. -/
theorem rest_at : bigSep ((rd X W).duties (kcell (c, k)) 0 \ ∅) (fun d => (rd X W).payload (kcell (c, k)) 0 d)
    = bigSep (dut k) fun d => pay X W c k d := by
  rw [Finset.sdiff_empty, duties_at]; exact bigSep_congr fun d _ => payload_at X W c k 0 d
theorem rest_bar : bigSep ((rd X W).duties (kcell (c, kBar)) 0 \ ∅) (fun d => (rd X W).payload (kcell (c, kBar)) 0 d)
    = bigSep Finset.univ fun d => iprop(∃ f, cPts (peer c d) c f) := rest_at X W c kBar
theorem rest_send (r : Fin 31) : bigSep ((rd X W).duties (kcell (c, kSend r.succ)) 0 \ ∅) (fun d => (rd X W).payload (kcell (c, kSend r.succ)) 0 d)
    = tPts c (peer c r) (xtF (X c)) := (rest_at X W c (kSend r.succ)).trans bigSep_singleton
theorem rest_recv (r : Fin 31) : bigSep ((rd X W).duties (kcell (c, kRecv r.succ)) 0 \ ∅) (fun d => (rd X W).payload (kcell (c, kRecv r.succ)) 0 d)
    = cPts c (peer c r.rev) (landF X c) := (rest_at X W c (kRecv r.succ)).trans bigSep_singleton
theorem rest_w (q : Fin 4) : bigSep ((rd X W).duties (kcell (c, kW q)) 0 \ ∅) (fun d => (rd X W).payload (kcell (c, kW q)) 0 d)
    = iprop(bPts c q (bufF (W c)) ∗ wPts c q (W c)) := (rest_at X W c (kW q)).trans bigSep_singleton

end Tables

/-! ## What a device owes at launch, and the levels -/

/-- The credit device `c` owes for its transfer numbered `r + 1`, and for its signal to the same device. -/
def recvT (c : Dev nD) (r : Fin 31) : CellTallies nD τ sig Unit := tallyAt (kcell (peer c r, kRecv r.succ)) () N
def barT (c : Dev nD) (r : Fin 31) : CellTallies nD τ sig Unit := tallyAt (kcell (peer c r, kBar)) () 1

/-- What is still owed for a list of transfers, of signals. -/
def recvO (c : Dev nD) (l : List (Fin 31)) : CellTallies nD τ sig Unit := (l.map (recvT c)).sum
def barO (c : Dev nD) (l : List (Fin 31)) : CellTallies nD τ sig Unit := (l.map (barT c)).sum
def O₀ (c : Dev nD) : CellTallies nD τ sig Unit := recvO c steps + barO c steps

theorem recvO_cons (c : Dev nD) (r : Fin 31) (l : List (Fin 31)) : recvO c (r :: l) = recvO c l + recvT c r := by
  unfold recvO; rw [List.map_cons, List.sum_cons, add_comm]
theorem barO_cons (c : Dev nD) (r : Fin 31) (l : List (Fin 31)) : barO c (r :: l) = barO c l + barT c r := by
  unfold barO; rw [List.map_cons, List.sum_cons, add_comm]

def L (g : GSem nD τ sig) : Finset Unit := if g.1.2 = .tc then {()} else ∅
/-- Barriers at 1, receive semaphores at 2, everything else at 0. -/
def lvK : Option CK → ℕ
  | some (.inl _) => 1
  | some (.inr (.inr (.inl _))) => 2
  | _ => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CK) (u : Unit) : lv (kcell (c, k)) u = lvK (some k) := by unfold lv; rw [kind_csem]

/-- A positive summand of a positive sum. -/
theorem sum_pos {l : List (Fin 31)} {f : Fin 31 → CellTallies nD τ sig Unit} {g : GSem nD τ sig} {u : Unit} (h : 0 < (l.map f).sum g u) :
    ∃ r, 0 < f r g u := by
  induction l with
  | nil => exact absurd h (Nat.lt_irrefl 0)
  | cons r l ih =>
    rw [List.map_cons, List.sum_cons, Pi.add_apply, Finsupp.add_apply] at h
    rcases Nat.eq_zero_or_pos (f r g u) with h0 | h0
    · rw [h0, Nat.zero_add] at h; exact ih h
    · exact ⟨r, h0⟩
theorem tallyAt_pos {g g' : GSem nD τ sig} {u u' : Unit} {n : ℕ} (h : 0 < (tallyAt g u n : CellTallies nD τ sig Unit) g' u') : g' = g := by
  rw [tallyAt_apply] at h
  by_contra hn
  rw [if_neg fun h' => hn h'.1] at h
  exact Nat.lt_irrefl 0 h
theorem recvO_pos {c : Dev nD} {l : List (Fin 31)} {g : GSem nD τ sig} {u : Unit} (h : 0 < recvO c l g u) : ∃ r, g = kcell (peer c r, kRecv r.succ) := by
  obtain ⟨r, hr⟩ := sum_pos h
  exact ⟨r, tallyAt_pos hr⟩
theorem barO_pos {c : Dev nD} {l : List (Fin 31)} {g : GSem nD τ sig} {u : Unit} (h : 0 < barO c l g u) : ∃ r, g = kcell (peer c r, kBar) := by
  obtain ⟨r, hr⟩ := sum_pos h
  exact ⟨r, tallyAt_pos hr⟩
/-- What is owed at launch is owed to barriers and receive semaphores. -/
theorem O₀_pos {c : Dev nD} {g : GSem nD τ sig} {u : Unit} (h : 0 < O₀ c g u) : ∃ d k, g = kcell (d, k) ∧ 1 ≤ lvK (some k) := by
  unfold O₀ at h
  rw [Pi.add_apply, Finsupp.add_apply] at h
  rcases Nat.eq_zero_or_pos (recvO c steps g u) with h0 | h0
  · rw [h0, Nat.zero_add] at h
    obtain ⟨r, hr⟩ := barO_pos h
    exact ⟨_, _, hr, le_refl 1⟩
  · obtain ⟨r, hr⟩ := recvO_pos h0
    exact ⟨_, _, hr, (by decide : 1 ≤ 2)⟩

/-- A semaphore that is none of the protocol's is at level 0. -/
theorem lv_stage (c : Dev nD) (q : DmaSem sig) (hq : q.val < 2) (u : Unit) : lv ((c : Thread nD τ), .dma q) u = 0 := by
  unfold lv
  rcases hk : kind (SemLoc.dma q : SemLoc sig) with _ | k
  · rfl
  · exfalso
    have h := congrArg semNo (csem_of_kind hk)
    rcases k with _ | i | i | i <;> simp only [csem, osem, semNo, sendSem_val, recvSem_val, wSem_val] at h <;> omega

omit [FloatOps F] in
/-- The staging copies may be waited for while everything is owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := O₀_pos hg; rw [L_tc]; exact Finset.mem_singleton_self _)
      (fun p hp => by rw [Finset.mem_singleton.mp hp, lv_stage c q hq])
      (fun g u hg => by obtain ⟨d, k, rfl, hk⟩ := O₀_pos hg; rw [lv_at]; exact hk)
  · rw [MayWait_zero]; iintro -; iempintro

omit [FloatOps F] in
/-- At the barrier a device owes receive semaphores only, above the barrier. -/
theorem mayWait_bar (c : Dev nD) (l : List (Fin 31)) :
    (levAts L lv : sProp 𝕄) ⊢ MayWait (c : Thread nD τ) (.reg barS) () (recvO c l) :=
  MayOwe.of_cut (L := L) (lev := lv) 1 (fun p hp => by rw [Finset.mem_singleton.mp hp, L_tc]; exact Finset.mem_singleton_self _)
    (fun g u hg => by obtain ⟨r, rfl⟩ := recvO_pos hg; rw [L_tc]; exact Finset.mem_singleton_self _)
    (fun p hp => by rw [Finset.mem_singleton.mp hp]; exact Nat.le_of_eq (lv_at c kBar ()))
    (fun g u hg => by obtain ⟨r, rfl⟩ := recvO_pos hg; rw [lv_at]; exact (by decide : 1 < 2))

end Cert.KernelIdeal.Run

end
-- ==== Proof.One.lean ====
/-
One step of each kind.

Each lemma takes what a step of the program needs and says what it leaves, with the rest of the program as the
continuation. The records — every semaphore's invariant, and that every semaphore has reached round 0 — are at hand
throughout.
-/
module

public import proofs.«01_k».proof.Proof.Protocol

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` on device `c` runs to `Q`. -/
abbrev WP (c : Dev nD) (p : P F) (Q : PUnit → sProp 𝕄) : sProp 𝕄 :=
  wp frame (wpE (defs₀ (F := F)) 𝒱₀ (c : Thread nD τ) none) Set.univ p Q

/-! ## Runs of like steps -/

omit [FloatOps F] in
theorem bigSep_ins {ι : Type} [DecidableEq ι] {i : ι} {s : Finset ι} (h : i ∉ s) (Φ : ι → sProp 𝕄) :
    bigSep (insert i s) Φ = iprop(Φ i ∗ bigSep s Φ) := bigSep_insert h

/-- A run of like steps over a list: each spends its item `A i`, leaves `B i`, and moves the shared state `S`. -/
theorem wp_fold {ι : Type} [DecidableEq ι] (c : Dev nD) (R : sProp 𝕄) [BI.Persistent R] (S : List ι → sProp 𝕄) (A B : ι → sProp 𝕄)
    (f : ι → P F → P F) (Q : PUnit → sProp 𝕄)
    (h : ∀ i l k, iprop(R ∗ S (i :: l) ∗ A i) ⊢ iprop((S l ∗ B i -∗ WP c k Q) -∗ WP c (f i k) Q))
    (l : List ι) (hl : l.Nodup) (k : P F) :
    iprop(R ∗ S l ∗ bigSep l.toFinset A) ⊢ iprop((S [] ∗ bigSep l.toFinset B -∗ WP c k Q) -∗ WP c (l.foldr f k) Q) := by
  induction l with
  | nil =>
    rw [List.toFinset_nil, bigSep_empty, bigSep_empty]
    iintro ⟨-, HS, -⟩ Hk
    iapply Hk
    isplitl [HS]; · iexact HS
    iempintro
  | cons i l ih =>
    have hi : i ∉ l.toFinset := fun hm => (List.nodup_cons.mp hl).1 (List.mem_toFinset.mp hm)
    rw [List.toFinset_cons, bigSep_ins hi, bigSep_ins hi]
    iintro ⟨#HR, HS, HA, HAl⟩ Hk
    iapply (h i l (l.foldr f k)) $$ [HS HA]
    · isplitr; · iexact HR
      isplitl [HS] <;> iassumption
    iintro ⟨HS, HB⟩
    iapply (ih (List.nodup_cons.mp hl).2) $$ [HS HAl]
    · isplitr; · iexact HR
      isplitl [HS] <;> iassumption
    iintro ⟨HS, HBl⟩
    iapply Hk
    isplitl [HS]; · iexact HS
    isplitl [HB] <;> iassumption

/-! ## The records -/

variable (X : Dev nD → XC F) (W : Dev nD → WC F) (K : Dev nD × CK → ℕ)

def records : sProp 𝕄 :=
  iprop((bigSep Finset.univ fun ck : Dev nD × CK => cellInv ER (rd X W) (K ck) (kcell ck))
    ∗ bigSep Finset.univ fun ck : Dev nD × CK => reached ER (kcell ck) 0)

instance records_persistent : BI.Persistent (records X W K) := by unfold records; infer_instance

omit [FloatOps F] in
theorem elim_at {ι : Type} [Fintype ι] [DecidableEq ι] (Φ : ι → sProp 𝕄) (i : ι) : bigSep Finset.univ Φ ⊢ Φ i := bigSep_elim (Finset.mem_univ i)

theorem inv_of (ck : Dev nD × CK) : records X W K ⊢ cellInv ER (rd X W) (K ck) (kcell ck) := by
  unfold records
  iintro ⟨H, -⟩
  iapply (elim_at (fun ck : Dev nD × CK => cellInv ER (rd X W) (K ck) (kcell ck)) ck); iexact H
theorem reached_of (ck : Dev nD × CK) : records X W K ⊢ reached ER (kcell ck) 0 := by
  unfold records
  iintro ⟨-, H⟩
  iapply (elim_at (fun ck : Dev nD × CK => reached ER (kcell ck) 0) ck); iexact H

/-! ## The credit of each copy -/

omit [FloatOps F] in
theorem credit_t (t : Fin 32) : (tBlk t).view.dmaCredit = N := N_eq.symm ▸ rfl
omit [FloatOps F] in
theorem credit_c (t : Fin 32) : (cBlk t).view.dmaCredit = N := N_eq.symm ▸ rfl
omit [FloatOps F] in
theorem credit_w (q : Fin 4) : (wDst q).view.dmaCredit = NW := NW_eq.symm ▸ rfl

/-! ## The steps that pay -/

/-- Starting a copy of the weight's columns: the copy will pay the semaphore's duty with the slice written. -/
theorem wp_copyStep (c : Dev nD) (q : Fin 4) (k : P F) (Q : PUnit → sProp 𝕄) :
    iprop(records X W K ∗ (∃ f, bPts c q f) ∗ wPts c q (W c) ∗ dutyTok ER (kcell (c, kW q)) 0 0)
      ⊢ iprop((cred (tallyAt (kcell (c, kW q)) () NW) -∗ WP c k Q) -∗ WP c (copyStep q k) Q) := by
  iintro ⟨#HR, ⟨%f, Hb⟩, Hw, Ht⟩ Hk
  unfold copyStep
  unfold bPts wPts
  iapply (Rounds.wp_copy_pointsTo 𝒱₀ ER (rd X W) (c : Thread nD τ) none (κ := K (c, kW q)) (r := 0) (d := 0) (sem := .dma (wSem q))
    (fs := W c) (fd := f) (q := fullShare)
    (by rw [show ((c : Thread nD τ), SemLoc.dma (wSem q)) = kcell (c, kW q) from rfl, duties_at]; exact Finset.mem_singleton_self _)
    () NW (credit_w q) (amount_at X W c (kW q) 0 0)
    (by
      rw [show ((c : Thread nD τ), SemLoc.dma (wSem q)) = kcell (c, kW q) from rfl, payload_at]
      refine sep_mono_left (Entails.of_eq ?_)
      exact pointsTo_congr (write_eq_on (wDst q).view f (bufF (W c)) _ (slice_read (W c) q)))) $$ [Hb Hw Ht]
  · isplitr; · iapply (inv_of X W K (c, kW q)); iexact HR
    isplitl [Hw]; · iexact Hw
    isplitl [Hb]; · iexact Hb
    isplitl [Ht]; · iexact Ht
    iapply (reached_of X W K (c, kW q)); iexact HR
  iexact Hk

/-- What a signal to the device `r + 1` further on hands over. -/
theorem sig_pay (c : Dev nD) (r : Fin 31) :
    (rd X W).payload ((peer c r : Thread nD τ), SemLoc.reg barS) 0 r.rev = iprop(∃ f, cPts c (peer c r) f) := by
  rw [show ((peer c r : Thread nD τ), SemLoc.reg barS) = kcell (peer c r, kBar) from rfl, payload_at]
  show iprop(∃ f, cPts (peer (peer c r) r.rev) (peer c r) f) = _
  rw [peer_rev]

/-- Signalling the barrier of the device `r + 1` further on: it is handed the signaller's landing rows for it. -/
theorem wp_sigStep (c : Dev nD) (r : Fin 31) (O : CellTallies nD τ sig Unit) (Ws : Waits sig Unit) (k : P F) (Q : PUnit → sProp 𝕄) :
    iprop(records X W K ∗ owes (c : Thread nD τ) (O + barT c r) Ws ∗ dutyTok ER (kcell (peer c r, kBar)) 0 r.rev ∗ ∃ f, cPts c (peer c r) f)
      ⊢ iprop((owes (c : Thread nD τ) O Ws -∗ WP c k Q) -∗ WP c (sigStep c r k) Q) := by
  iintro ⟨#HR, HO, Ht, Hc⟩ Hk
  unfold sigStep
  iapply (Rounds.wp_signal 𝒱₀ ER (rd X W) (c : Thread nD τ) none (dst := (peer c r : Thread nD τ)) (κ := K (peer c r, kBar))
      (d := r.rev) (r := 0)
      (by rw [show ((peer c r : Thread nD τ), SemLoc.reg barS) = kcell (peer c r, kBar) from rfl, duties_at]; exact Finset.mem_univ _)
      ((amount_at X W (peer c r) kBar 0 r.rev).trans (by decide)) () O rfl)
    $$ [HO Ht Hc]
  · isplitr; · iapply (inv_of X W K (peer c r, kBar)); iexact HR
    isplitl [HO]; · iexact HO
    isplitl [Ht]; · iexact Ht
    isplitl [Hc]
    · rw [sig_pay]; iexact Hc
    · iapply (reached_of X W K (peer c r, kBar)); iexact HR
  iexact Hk

/-- Sending the block for the device `r + 1` further on: the transfer will pay its own send semaphore with the block sent,
    and that device's receive semaphore with the block landed. -/
theorem wp_sendStep (c : Dev nD) (r : Fin 31) (O : CellTallies nD τ sig Unit) (Ws : Waits sig Unit) (k : P F) (Q : PUnit → sProp 𝕄) :
    iprop(records X W K ∗ owes (c : Thread nD τ) (O + recvT c r) Ws ∗ tPts c (peer c r) (xtF (X c)) ∗ (∃ f, cPts (peer c r) c f)
        ∗ dutyTok ER (kcell (c, kSend r.succ)) 0 0 ∗ dutyTok ER (kcell (peer c r, kRecv r.succ)) 0 0)
      ⊢ iprop((owes (c : Thread nD τ) O Ws ∗ cred (tallyAt (kcell (c, kSend r.succ)) () N) -∗ WP c k Q) -∗ WP c (sendStep c r k) Q) := by
  iintro ⟨#HR, HO, Hx, ⟨%f, Hc⟩, Hts, Htr⟩ Hk
  unfold sendStep
  unfold tPts cPts
  iapply (Rounds.wp_send_pointsTo 𝒱₀ ER (rd X W) (c : Thread nD τ) none (c' := (peer c r : Thread nD τ)) (κ₁ := K (c, kSend r.succ)) (κ₂ := K (peer c r, kRecv r.succ))
    (r₁ := 0) (r₂ := 0) (d₁ := 0) (d₂ := 0) (sS := .dma (sendSem r.succ)) (sem := .dma (recvSem r.succ)) (fs := xtF (X c)) (fd := f) (q := fullShare)
    (by rw [show ((c : Thread nD τ), SemLoc.dma (sendSem r.succ)) = kcell (c, kSend r.succ) from rfl, duties_at]; exact Finset.mem_singleton_self _)
    (by rw [show ((peer c r : Thread nD τ), SemLoc.dma (recvSem r.succ)) = kcell (peer c r, kRecv r.succ) from rfl, duties_at]; exact Finset.mem_singleton_self _)
    () () N (credit_c c) (amount_at X W c (kSend r.succ) 0 0) (amount_at X W (peer c r) (kRecv r.succ) 0 0) O rfl (W := Ws)
    (by
      rw [show ((c : Thread nD τ), SemLoc.dma (sendSem r.succ)) = kcell (c, kSend r.succ) from rfl, payload_at]
      exact BI.Entails.refl _)
    (by
      rw [show ((peer c r : Thread nD τ), SemLoc.dma (recvSem r.succ)) = kcell (peer c r, kRecv r.succ) from rfl, payload_at]
      show _ ⊢ cPts (peer c r) (peer (peer c r) r.rev) (landF X (peer c r))
      rw [peer_rev]
      exact Entails.of_eq (pointsTo_congr (write_eq_on (cBlk c).view f (landF X (peer c r)) _ (landed_read X (peer c r) c))))) $$ [HO Hx Hc Hts Htr]
  · isplitr; · iapply (inv_of X W K (c, kSend r.succ)); iexact HR
    isplitr; · iapply (inv_of X W K (peer c r, kRecv r.succ)); iexact HR
    isplitl [Hx]; · iexact Hx
    isplitl [Hc]; · iexact Hc
    isplitl [HO]; · iexact HO
    isplitl [Hts]; · iexact Hts
    isplitr; · iapply (reached_of X W K (c, kSend r.succ)); iexact HR
    isplitl [Htr]; · iexact Htr
    iapply (reached_of X W K (peer c r, kRecv r.succ)); iexact HR
  iintro ⟨Hcr, HO⟩
  iapply Hk
  isplitl [HO] <;> iassumption

/-! ## The steps that wait -/

/-- A device waits on the barrier for all 31 others, each of which hands over its landing rows; then the semaphore is at zero
    for good. -/
theorem wp_barStep (c : Dev nD) (l : List (Fin 31)) (Ws : Waits sig Unit) (k : P F) (Q : PUnit → sProp 𝕄) :
    iprop(records X W K ∗ levAts L lv ∗ cred (tallyAt (kcell (c, kBar)) () 31) ∗ owes (c : Thread nD τ) (recvO c l) Ws ∗ atPos ER (kcell (c, kBar)) 0 ∅ 0)
      ⊢ iprop((owes (c : Thread nD τ) (recvO c l) (insert (SemLoc.reg barS, ()) Ws) ∗ semVal (kcell (c, kBar)) 0
            ∗ (bigSep Finset.univ fun d => iprop(∃ f, cPts (peer c d) c f)) -∗ WP c k Q) -∗ WP c (barStep k) Q) := by
  iintro ⟨#HR, #Hlev, Hc, HO, Hat⟩ Hk
  unfold barStep
  iapply (Rounds.wp_wait_rest_token 𝒱₀ ER (rd X W) (c : Thread nD τ) none (κ := K (c, kBar))
      (wpE_semWait_eq 𝒱₀ (c : Thread nD τ) none Set.univ) (Set.mem_univ _) () (O := recvO c l) (W := Ws) (R := 0) (m := 0) (T := ∅)
      (by rw [show ((c : Thread nD τ), SemLoc.reg barS) = kcell (c, kBar) from rfl, expect_bar]; decide)) $$ [Hc HO Hat]
  · isplitr; · iapply (inv_of X W K (c, kBar)); iexact HR
    isplitl [Hc]; · iexact Hc
    isplitl [HO]; · iexact HO
    isplitr; · iapply (mayWait_bar c l); iexact Hlev
    iexact Hat
  iintro ⟨HO, Hat, -, Hpay⟩
  ihave Hp := (Entails.of_eq (rest_bar X W c)) $$ Hpay
  imod (Rounds.cell_close ER (rd X W) (Set.mem_univ (K (c, kBar))) (fun h => h) (R := 0 + 1) (duties_later X W (kcell (c, kBar)))) $$ [Hat] with Hz
  · isplitr; · iapply (inv_of X W K (c, kBar)); iexact HR
    iexact Hat
  iapply Hk
  isplitl [HO]; · iexact HO
  isplitl [Hz] <;> iassumption

/-- Some waits recorded, nothing owed. -/
abbrev owes0 (c : Dev nD) : sProp 𝕄 := iprop(∃ Ws, owes (c : Thread nD τ) 0 Ws)

/-- The two waits of a step: the block sent is back, the block of the device `r + 1` back has landed, and both semaphores are at
    zero for good. -/
theorem wp_waitStep (c : Dev nD) (r : Fin 31) (k : P F) (Q : PUnit → sProp 𝕄) :
    iprop(records X W K ∗ owes0 c ∗ cred (tallyAt (kcell (c, kSend r.succ)) () N) ∗ cred (tallyAt (kcell (c, kRecv r.succ)) () N)
        ∗ atPos ER (kcell (c, kSend r.succ)) 0 ∅ 0 ∗ atPos ER (kcell (c, kRecv r.succ)) 0 ∅ 0)
      ⊢ iprop((owes0 c ∗ semVal (kcell (c, kSend r.succ)) 0 ∗ semVal (kcell (c, kRecv r.succ)) 0
            ∗ tPts c (peer c r) (xtF (X c)) ∗ cPts c (peer c r.rev) (landF X c) -∗ WP c k Q) -∗ WP c (waitStep c r k) Q) := by
  iintro ⟨#HR, ⟨%Ws, HO⟩, Hcs, Hcr, Has, Har⟩ Hk
  unfold waitStep
  iapply (Rounds.wp_wait_rest_token 𝒱₀ ER (rd X W) (c : Thread nD τ) none (κ := K (c, kSend r.succ)) (k' := (tBlk (peer c r)).view.dmaCredit)
      (wpE_waitDma2_eq 𝒱₀ (c : Thread nD τ) none Set.univ) (Set.mem_univ _) () (O := 0) (W := Ws) (R := 0) (m := 0) (T := ∅)
      (by rw [show ((c : Thread nD τ), SemLoc.dma (sendSem r.succ)) = kcell (c, kSend r.succ) from rfl, expect_send, Nat.zero_add, credit_t])) $$ [Hcs HO Has]
  · isplitr; · iapply (inv_of X W K (c, kSend r.succ)); iexact HR
    isplitl [Hcs]; · rw [credit_t]; iexact Hcs
    isplitl [HO]; · iexact HO
    isplitr; · rw [MayWait_zero]; iempintro
    iexact Has
  iintro ⟨HO, Has, -, Hpay⟩
  ihave Ht := (Entails.of_eq (rest_send X W c r)) $$ Hpay
  iapply (Rounds.wp_wait_rest_token 𝒱₀ ER (rd X W) (c : Thread nD τ) none (κ := K (c, kRecv r.succ)) (k' := (cBlk c).view.dmaCredit)
      (wpE_waitDma2_eq 𝒱₀ (c : Thread nD τ) none Set.univ) (Set.mem_univ _) () (O := 0) (R := 0) (m := 0) (T := ∅)
      (by rw [show ((c : Thread nD τ), SemLoc.dma (recvSem r.succ)) = kcell (c, kRecv r.succ) from rfl, expect_recv, Nat.zero_add, credit_c])) $$ [Hcr HO Har]
  · isplitr; · iapply (inv_of X W K (c, kRecv r.succ)); iexact HR
    isplitl [Hcr]; · rw [credit_c]; iexact Hcr
    isplitl [HO]; · iexact HO
    isplitr; · rw [MayWait_zero]; iempintro
    iexact Har
  iintro ⟨HO, Har, -, Hpay⟩
  ihave Hl := (Entails.of_eq (rest_recv X W c r)) $$ Hpay
  imod (Rounds.cell_close ER (rd X W) (Set.mem_univ (K (c, kSend r.succ))) (fun h => h) (R := 0 + 1) (duties_later X W (kcell (c, kSend r.succ)))) $$ [Has] with Hzs
  · isplitr; · iapply (inv_of X W K (c, kSend r.succ)); iexact HR
    iexact Has
  imod (Rounds.cell_close ER (rd X W) (Set.mem_univ (K (c, kRecv r.succ))) (fun h => h) (R := 0 + 1) (duties_later X W (kcell (c, kRecv r.succ)))) $$ [Har] with Hzr
  · isplitr; · iapply (inv_of X W K (c, kRecv r.succ)); iexact HR
    iexact Har
  iapply Hk
  isplitl [HO]; · iexists _; iexact HO
  isplitl [Hzs]; · iexact Hzs
  isplitl [Hzr]; · iexact Hzr
  isplitl [Ht] <;> iassumption

/-! ## The steps that compute -/

/-! A store through one of the blocks, read back inside it and outside. -/

omit [FloatOps F] in
theorem writeT_in (t : Fin 32) (f : XC F) (w : Vec F S64x64 .bf16) (j : S64x64.Idx) :
    (tM.access (tRect t)).write (Elt F) f w Finset.univ ((tRect t).emb j) = w j :=
  (View.write_emb_of_mem (v := tM.access (tRect t)) f w (Finset.mem_univ j)).trans rfl
omit [FloatOps F] in
theorem writeT_out (t t' : Fin 32) (h : t' ≠ t) (f : XC F) (w : Vec F S64x64 .bf16) (j : S64x64.Idx) :
    (tM.access (tRect t)).write (Elt F) f w Finset.univ ((tRect t').emb j) = f ((tRect t').emb j) :=
  View.write_of_not_mem (v := tM.access (tRect t)) f w Finset.univ (fun hm => h (by
    have h1 : (tRect t').emb j ∈ (tRect t).set := (View.set_slice_whole cc0_scratch0 (tRect t)) ▸ hm
    exact (rowOf_emb t' j).symm.trans (mem_tRect.mp h1)))
omit [FloatOps F] in
theorem writeO_in (q : Fin 4) (f : OC F) (w : Vec F S64x512 .f32) (j : S64x512.Idx) :
    (oM.access (oRect q)).write (Elt F) f w Finset.univ ((oRect q).emb j) = w j :=
  (View.write_emb_of_mem (v := oM.access (oRect q)) f w (Finset.mem_univ j)).trans rfl
omit [FloatOps F] in
theorem writeO_out (q q' : Fin 4) (h : q' ≠ q) (f : OC F) (w : Vec F S64x512 .f32) (j : S64x512.Idx) :
    (oM.access (oRect q)).write (Elt F) f w Finset.univ ((oRect q').emb j) = f ((oRect q').emb j) :=
  View.write_of_not_mem (v := oM.access (oRect q)) f w Finset.univ (fun hm => h (by
    have h1 : (oRect q').emb j ∈ (oRect q).set := (View.set_slice_whole cc0_stg1_0 (oRect q)) ▸ hm
    exact (colOf_emb q' j).symm.trans (mem_oRect.mp h1)))

/-- Buffers of a device held whole: the staged block of `x`, the transposed blocks, the staged result, the landing buffer. -/
abbrev xAll (c : Dev nD) (f : XC F) : sProp 𝕄 := ((c : Thread nD τ).loc cc0_stg0_0 ↦{fullShare} (show Buf (Elt F) ((c : Thread nD τ).loc cc0_stg0_0) from f))
abbrev tAll (c : Dev nD) (f : XC F) : sProp 𝕄 := ((c : Thread nD τ).loc cc0_scratch0 ↦{fullShare} (show Buf (Elt F) ((c : Thread nD τ).loc cc0_scratch0) from f))
abbrev cAll (c : Dev nD) (f : XC F) : sProp 𝕄 := ((c : Thread nD τ).loc cc0_scratch1 ↦{fullShare} (show Buf (Elt F) ((c : Thread nD τ).loc cc0_scratch1) from f))
abbrev oAll (c : Dev nD) (f : OC F) : sProp 𝕄 := ((c : Thread nD τ).loc cc0_stg1_0 ↦{fullShare} (show Buf (Elt F) ((c : Thread nD τ).loc cc0_stg1_0) from f))

/-- The transposed blocks, all written but those of the list; the result, all column blocks written but those of the list. -/
def trState (c : Dev nD) (x : XC F) (l : List (Fin 32)) : sProp 𝕄 :=
  iprop(xAll c x ∗ ∃ f, ⌜∀ t, t ∉ l → ∀ j, f ((tRect t).emb j) = xtF x ((tRect t).emb j)⌝ ∗ tAll c f)
def mulState (c : Dev nD) (l : List (Fin 4)) : sProp 𝕄 :=
  iprop(owes0 c ∗ cAll c (landF X c) ∗ ∃ f, ⌜∀ q, q ∉ l → ∀ j, f ((oRect q).emb j) = outF X (W c) c ((oRect q).emb j)⌝ ∗ oAll c f)

/-- One transpose. -/
theorem wp_trStep (c : Dev nD) (x : XC F) (t : Fin 32) (l : List (Fin 32)) (k : P F) (Q : PUnit → sProp 𝕄) :
    trState c x (t :: l) ⊢ iprop((trState c x l -∗ WP c k Q) -∗ WP c (trStep t k) Q) := by
  unfold trState trStep
  iintro ⟨Hx, %f, %hf, Ht⟩ Hk
  iapply (wp_load 𝒱₀ (c : Thread nD τ) none Set.univ (m := xM) (Finset.subset_univ _)) $$ Hx; iintro Hx
  iapply (wp_load 𝒱₀ (c : Thread nD τ) none Set.univ (m := tM) (Finset.subset_univ _)) $$ Ht; iintro Ht
  iapply (wp_store 𝒱₀ (c : Thread nD τ) none Set.univ (m := tM) (r := tRect t) (Mk := Finset.univ) (Finset.subset_univ _)) $$ Ht; iintro Ht
  iapply Hk
  isplitl [Hx]; · iexact Hx
  iexists _
  isplitr
  rotate_left
  · iexact Ht
  · ipureintro
    intro t' ht' j
    by_cases h : t' = t
    · subst h
      exact (writeT_in t' f _ j).trans (xtF_emb x t' j).symm
    · exact (writeT_out t t' h f _ j).trans (hf t' (List.not_mem_cons_of_ne_of_not_mem h ht') j)

/-- The device's own block, kept. -/
theorem wp_keepStep (c : Dev nD) (k : P F) (Q : PUnit → sProp 𝕄) :
    iprop(tPts c c (xtF (X c)) ∗ ∃ f, cPts c c f) ⊢ iprop((tPts c c (xtF (X c)) ∗ cPts c c (landF X c) -∗ WP c k Q) -∗ WP c (keepStep c k) Q) := by
  unfold keepStep tPts cPts
  iintro ⟨Ht, %f, Hc⟩ Hk
  iapply (wp_load 𝒱₀ (c : Thread nD τ) none Set.univ (m := tM) (S := (tBlk c).view.set) (subset_of_eq (View.set_slice tM.view (tRect c)).symm)) $$ Ht; iintro Ht
  iapply (wp_load 𝒱₀ (c : Thread nD τ) none Set.univ (m := cM) (S := (cBlk c).view.set) (subset_of_eq (View.set_slice cM.view (tRect c)).symm)) $$ Hc; iintro Hc
  iapply (wp_store 𝒱₀ (c : Thread nD τ) none Set.univ (m := cM) (r := tRect c) (Mk := Finset.univ) (S := (cBlk c).view.set) (subset_of_eq rfl)) $$ Hc; iintro Hc
  iapply Hk
  isplitl [Ht]; · iexact Ht
  ihave Hc' := (Entails.of_eq (pointsTo_congr (write_eq_on (cM.access (tRect c)) f (landF X c) _ (by
    rw [pay37_eq]; exact landed_read X c c)))) $$ Hc
  iexact Hc'

omit [FloatOps F] in
theorem hz : (![0, 0] : Fin 2 → Nat) = fun _ => 0 := funext fun a => by fin_cases a <;> rfl
omit [FloatOps F] in
theorem read_c (f : XC F) :
    (cM : Memref sig .tc .vmem S2048x64 .bf16).view.readAt (Elt F) (Rect.unit (s := S2048x64) ![0, 0] S2048x64.size inb_S2048x64_S2048x64_0_0).toLoadRect f = f :=
  Memref.readAt_unit_zero (Elt F) cc0_scratch1 hz _ f

omit [FloatOps F] in
/-- The elements a load of slice `q` reads are those the copy wrote. -/
theorem setOn_b (q : Fin 4) : bM.view.setOn (bRect q).toLoadRect.set = (wDst q).view.set :=
  (View.set_slice bM.view (bRect q)).symm.trans ((View.set_slice_whole cc0_scratch2 (bRect q)).trans (wDst_set q).symm)

/-- One product: the wait for the slice of the weight, the product, the activation, the store. -/
theorem wp_mulStep (c : Dev nD) (q : Fin 4) (l : List (Fin 4)) (k : P F) (Q : PUnit → sProp 𝕄) :
    iprop(records X W K ∗ mulState X W c (q :: l) ∗ cred (tallyAt (kcell (c, kW q)) () NW) ∗ atPos ER (kcell (c, kW q)) 0 ∅ 0)
      ⊢ iprop((mulState X W c l ∗ semVal (kcell (c, kW q)) 0 ∗ bPts c q (bufF (W c)) ∗ wPts c q (W c) -∗ WP c k Q) -∗ WP c (mulStep q k) Q) := by
  unfold mulState mulStep
  iintro ⟨#HR, ⟨⟨%Ws, HO⟩, Hc, %f, %hf, Ho⟩, Hcr, Hat⟩ Hk
  iapply (Rounds.wp_wait_rest_token 𝒱₀ ER (rd X W) (c : Thread nD τ) none (κ := K (c, kW q)) (k' := (wDst q).view.dmaCredit)
      (wpE_waitDma2_eq 𝒱₀ (c : Thread nD τ) none Set.univ) (Set.mem_univ _) () (O := 0) (W := Ws) (R := 0) (m := 0) (T := ∅)
      (by rw [show ((c : Thread nD τ), SemLoc.dma (wSem q)) = kcell (c, kW q) from rfl, expect_w, Nat.zero_add, credit_w])) $$ [Hcr HO Hat]
  · isplitr; · iapply (inv_of X W K (c, kW q)); iexact HR
    isplitl [Hcr]; · rw [credit_w]; iexact Hcr
    isplitl [HO]; · iexact HO
    isplitr; · rw [MayWait_zero]; iempintro
    iexact Hat
  iintro ⟨HO, Hat, -, Hpay⟩
  ihave Hp := (Entails.of_eq (rest_w X W c q)) $$ Hpay
  icases Hp with ⟨Hb, Hw⟩
  imod (Rounds.cell_close ER (rd X W) (Set.mem_univ (K (c, kW q))) (fun h => h) (R := 0 + 1) (duties_later X W (kcell (c, kW q)))) $$ [Hat] with Hz
  · isplitr; · iapply (inv_of X W K (c, kW q)); iexact HR
    iexact Hat
  iapply (wp_load 𝒱₀ (c : Thread nD τ) none Set.univ (m := cM) (Finset.subset_univ _)) $$ Hc; iintro Hc
  rw [read_c]
  unfold bPts
  iapply (wp_load 𝒱₀ (c : Thread nD τ) none Set.univ (m := bM) (S := (wDst q).view.set) (subset_of_eq (setOn_b q))) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := oRect q) (Mk := Finset.univ) (Finset.subset_univ _)) $$ Ho; iintro Ho
  iapply Hk
  isplitl [HO Hc Ho]
  · isplitl [HO]; · iexists _; iexact HO
    isplitl [Hc]; · iexact Hc
    iexists _
    isplitr
    rotate_left
    · iexact Ho
    · ipureintro
      intro q' hq' j
      by_cases h : q' = q
      · subst h
        exact (writeO_in q' f _ j).trans (outF_emb X (W c) c q' j).symm
      · exact (writeO_out q q' h f _ j).trans (hf q' (List.not_mem_cons_of_ne_of_not_mem h hq') j)
  isplitl [Hz]; · iexact Hz
  isplitl [Hb] <;> iassumption

end Cert.KernelIdeal.Run

end
-- ==== Proof.Body.lean ====
/-
The body of the kernel on one device.

The phases of the program, each a run of like steps, and then the whole body: from its buffers, its tokens and its
positions, device `c` ends with the landing buffer, the result and every semaphore as stated.
-/
module

public import proofs.«01_k».proof.Proof.One

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of assertions -/

omit [FloatOps F] in
/-- A family over the 32 numbers: the first, and those counted from 1. -/
theorem bigSep_first (Φ : Fin 32 → sProp 𝕄) : bigSep Finset.univ Φ = iprop(Φ 0 ∗ bigSep Finset.univ fun r : Fin 31 => Φ r.succ) := by
  have h : (Finset.univ : Finset (Fin 32)) = insert 0 (Finset.univ.map ⟨Fin.succ, Fin.succ_injective 31⟩) := by
    ext i
    refine ⟨fun _ => ?_, fun _ => Finset.mem_univ _⟩
    induction i using Fin.cases with
    | zero => exact Finset.mem_insert_self _ _
    | succ r => exact Finset.mem_insert_of_mem (Finset.mem_map_of_mem ⟨Fin.succ, Fin.succ_injective 31⟩ (Finset.mem_univ r))
  rw [h, bigSep_ins (by
    intro hm
    obtain ⟨r, -, hr⟩ := Finset.mem_map.mp hm
    exact Fin.succ_ne_zero r hr), bigSep_map]
  rfl

omit [FloatOps F] in
/-- A family over the devices: one device, and those some number of steps on. -/
theorem bigSep_peers (c : Dev nD) (Φ : Fin 32 → sProp 𝕄) : bigSep Finset.univ Φ = iprop(Φ c ∗ bigSep Finset.univ fun r : Fin 31 => Φ (peer c r)) := by
  have h : (Finset.univ : Finset (Fin 32)) = insert (show Fin 32 from c) (Finset.univ.map ⟨peer c, peer_injective c⟩) := by
    ext i
    refine ⟨fun _ => ?_, fun _ => Finset.mem_univ _⟩
    by_cases hi : i = c
    · exact hi ▸ Finset.mem_insert_self _ _
    · obtain ⟨r, rfl⟩ := exists_peer hi
      exact Finset.mem_insert_of_mem (Finset.mem_map_of_mem ⟨peer c, peer_injective c⟩ (Finset.mem_univ r))
  rw [h, bigSep_ins (by
    intro hm
    obtain ⟨r, -, hr⟩ := Finset.mem_map.mp hm
    exact peer_ne c r hr), bigSep_map]
  rfl

omit [FloatOps F] in
/-- The same, the other devices counted the other way round. -/
theorem bigSep_rev (Φ : Fin 31 → sProp 𝕄) : (bigSep Finset.univ fun r : Fin 31 => Φ r.rev) = bigSep Finset.univ Φ :=
  (bigSep_univ_equiv Fin.revPerm Φ).symm

omit [FloatOps F] in
/-- A family over the semaphores, by kind. -/
theorem bigSep_kinds (Φ : CK → sProp 𝕄) :
    bigSep Finset.univ Φ = iprop(Φ kBar ∗ (Φ (kSend 0) ∗ bigSep Finset.univ fun r : Fin 31 => Φ (kSend r.succ))
      ∗ (Φ (kRecv 0) ∗ bigSep Finset.univ fun r : Fin 31 => Φ (kRecv r.succ)) ∗ bigSep Finset.univ fun q : Fin 4 => Φ (kW q)) := by
  rw [bigSep_univ_sum, bigSep_univ_sum, bigSep_univ_sum, bigSep_first, bigSep_first, Finset.univ_unique (α := Unit), bigSep_singleton]
  rfl

variable (X : Dev nD → XC F) (W : Dev nD → WC F) (K : Dev nD × CK → ℕ)

/-! ## The phases -/

theorem four_nodup : four.Nodup := by decide
theorem four_univ : four.toFinset = Finset.univ := by decide
theorem steps_nodup : steps.Nodup := by decide
theorem steps_univ : steps.toFinset = Finset.univ := by decide
theorem blocks_nodup : blocks.Nodup := by decide
theorem blocks_univ : blocks.toFinset = Finset.univ := by decide
theorem mem_blocks : ∀ t : Fin 32, t ∈ blocks := by decide
theorem mem_four : ∀ q : Fin 4, q ∈ four := by decide

/-- A buffer held at some contents is its pieces, each at some contents. -/
theorem pieces_some {ι : Type} [Fintype ι] [DecidableEq ι] {α : Type} (Φ : ι → α → sProp 𝕄) (f : α) :
    (bigSep Finset.univ fun i => Φ i f) ⊢ bigSep Finset.univ fun i => iprop(∃ f, Φ i f) :=
  bigSep_mono fun i _ => (by iintro H; iexists f; iexact H : Φ i f ⊢ iprop(∃ f, Φ i f))

omit [FloatOps F] in
theorem emps : (iprop(emp) : sProp 𝕄) ⊢ bigSep (Finset.univ : Finset (Fin 32)) fun _ => iprop(emp) := BI.bigSep_of_persistent Finset.univ _

/-- The four copies of the weight are started. -/
theorem wp_copies (c : Dev nD) (k : P F) (Q : PUnit → sProp 𝕄) :
    iprop(records X W K ∗ (bigSep Finset.univ fun q => iprop(∃ f, bPts c q f)) ∗ (bigSep Finset.univ fun q => wPts c q (W c))
        ∗ bigSep Finset.univ fun q => dutyTok ER (kcell (c, kW q)) 0 0)
      ⊢ iprop(((bigSep Finset.univ fun q => cred (tallyAt (kcell (c, kW q)) () NW)) -∗ WP c k Q) -∗ WP c (four.foldr copyStep k) Q) := by
  have h := wp_fold c (records X W K) (fun _ => iprop(emp)) (fun q => iprop((∃ f, bPts c q f) ∗ wPts c q (W c) ∗ dutyTok ER (kcell (c, kW q)) 0 0))
    (fun q => cred (tallyAt (kcell (c, kW q)) () NW)) copyStep Q (fun q l k => by
      iintro ⟨#HR, -, H⟩ Hk
      iapply (wp_copyStep X W K c q k Q) $$ [H]
      · isplitr; · iexact HR
        iexact H
      iintro Hc
      iapply Hk
      isplitr; · iempintro
      iexact Hc) four four_nodup k
  rw [four_univ, bigSep_sep', bigSep_sep'] at h
  iintro ⟨#HR, Hb, Hw, Ht⟩ Hk
  iapply h $$ [Hb Hw Ht]
  · isplitr; · iexact HR
    isplitr; · iempintro
    isplitl [Hb]; · iexact Hb
    isplitl [Hw] <;> iassumption
  iintro ⟨-, Hc⟩
  iapply Hk; iexact Hc

/-- The 31 other devices are signalled. -/
theorem wp_signals (c : Dev nD) (Ws : Waits sig Unit) (k : P F) (Q : PUnit → sProp 𝕄) :
    iprop(records X W K ∗ owes (c : Thread nD τ) (O₀ c) Ws ∗ (bigSep Finset.univ fun r => dutyTok ER (kcell (peer c r, kBar)) 0 r.rev)
        ∗ bigSep Finset.univ fun r => iprop(∃ f, cPts c (peer c r) f))
      ⊢ iprop((owes (c : Thread nD τ) (recvO c steps) Ws -∗ WP c k Q) -∗ WP c (steps.foldr (sigStep c) k) Q) := by
  have h := wp_fold c (records X W K) (fun l => owes (c : Thread nD τ) (recvO c steps + barO c l) Ws)
    (fun r => iprop(dutyTok ER (kcell (peer c r, kBar)) 0 r.rev ∗ ∃ f, cPts c (peer c r) f))
    (fun _ => iprop(emp)) (sigStep c) Q (fun r l k => by
      rw [barO_cons, ← add_assoc]
      iintro ⟨#HR, HO, H⟩ Hk
      iapply (wp_sigStep X W K c r (recvO c steps + barO c l) Ws k Q) $$ [HO H]
      · isplitr; · iexact HR
        isplitl [HO]; · iexact HO
        iexact H
      iintro HO
      iapply Hk
      isplitl [HO]; · iexact HO
      iempintro) steps steps_nodup k
  rw [steps_univ, bigSep_sep', show barO c [] = 0 from rfl, add_zero] at h
  iintro ⟨#HR, HO, Ht, Hc⟩ Hk
  iapply h $$ [HO Ht Hc]
  · isplitr; · iexact HR
    isplitl [HO]; · iexact HO
    isplitl [Ht] <;> iassumption
  iintro ⟨HO, -⟩
  iapply Hk; iexact HO

/-- Contents that agree on every block are equal. -/
theorem eq_xtF {x g : XC F} (h : ∀ t, t ∉ ([] : List (Fin 32)) → ∀ j, g ((tRect t).emb j) = xtF x ((tRect t).emb j)) : g = xtF x :=
  funext fun i => by
    have := h (rowOf i) List.not_mem_nil (inRow i)
    rwa [emb_rowOf] at this
theorem eq_outF (c : Dev nD) {g : OC F}
    (h : ∀ q, q ∉ ([] : List (Fin 4)) → ∀ j, g ((oRect q).emb j) = outF X (W c) c ((oRect q).emb j)) : g = outF X (W c) c :=
  funext fun i => by
    have := h (colOf i) List.not_mem_nil (inCol i)
    rwa [emb_colOf] at this

/-- The 32 blocks are transposed. -/
theorem wp_transposes (c : Dev nD) (x : XC F) (k : P F) (Q : PUnit → sProp 𝕄) :
    iprop(xAll c x ∗ ∃ f, tAll c f) ⊢ iprop((xAll c x ∗ tAll c (xtF x) -∗ WP c k Q) -∗ WP c (blocks.foldr trStep k) Q) := by
  have h := wp_fold c iprop(emp) (trState c x) (fun _ => iprop(emp)) (fun _ => iprop(emp)) trStep Q (fun t l k => by
      iintro ⟨-, HS, -⟩ Hk
      iapply (wp_trStep c x t l k Q) $$ HS
      iintro HS
      iapply Hk
      isplitl [HS]; · iexact HS
      iempintro) blocks blocks_nodup k
  rw [blocks_univ] at h
  unfold trState at h
  iintro ⟨Hx, %f, Ht⟩ Hk
  iapply h $$ [Hx Ht]
  · isplitr; · iempintro
    isplitl [Hx Ht]
    · isplitl [Hx]; · iexact Hx
      iexists f
      isplitr; · ipureintro; exact fun t ht => absurd (mem_blocks t) ht
      iexact Ht
    · iapply emps; iempintro
  iintro ⟨⟨Hx, %g, %hg, Ht⟩, -⟩
  rw [eq_xtF hg]
  iapply Hk
  isplitl [Hx] <;> iassumption

/-- The 31 blocks are sent. -/
theorem wp_sends (c : Dev nD) (Ws : Waits sig Unit) (k : P F) (Q : PUnit → sProp 𝕄) :
    iprop(records X W K ∗ owes (c : Thread nD τ) (recvO c steps) Ws ∗ (bigSep Finset.univ fun r => tPts c (peer c r) (xtF (X c)))
        ∗ (bigSep Finset.univ fun r => iprop(∃ f, cPts (peer c r) c f))
        ∗ (bigSep Finset.univ fun r : Fin 31 => dutyTok ER (kcell (c, kSend r.succ)) 0 0)
        ∗ bigSep Finset.univ fun r : Fin 31 => dutyTok ER (kcell (peer c r, kRecv r.succ)) 0 0)
      ⊢ iprop((owes (c : Thread nD τ) 0 Ws ∗ (bigSep Finset.univ fun r : Fin 31 => cred (tallyAt (kcell (c, kSend r.succ)) () N)) -∗ WP c k Q)
          -∗ WP c (steps.foldr (sendStep c) k) Q) := by
  have h := wp_fold c (records X W K) (fun l => owes (c : Thread nD τ) (recvO c l) Ws)
    (fun r => iprop(tPts c (peer c r) (xtF (X c)) ∗ (∃ f, cPts (peer c r) c f) ∗ dutyTok ER (kcell (c, kSend r.succ)) 0 0
      ∗ dutyTok ER (kcell (peer c r, kRecv r.succ)) 0 0))
    (fun r => cred (tallyAt (kcell (c, kSend r.succ)) () N)) (sendStep c) Q (fun r l k => by
      rw [recvO_cons]
      exact wp_sendStep X W K c r (recvO c l) Ws k Q) steps steps_nodup k
  rw [steps_univ, bigSep_sep', bigSep_sep', bigSep_sep', show recvO c [] = 0 from rfl] at h
  exact h

/-- All transfers are waited for. -/
theorem wp_waits (c : Dev nD) (k : P F) (Q : PUnit → sProp 𝕄) :
    iprop(records X W K ∗ owes0 c ∗ (bigSep Finset.univ fun r : Fin 31 => cred (tallyAt (kcell (c, kSend r.succ)) () N))
        ∗ (bigSep Finset.univ fun r : Fin 31 => cred (tallyAt (kcell (c, kRecv r.succ)) () N))
        ∗ (bigSep Finset.univ fun r : Fin 31 => atPos ER (kcell (c, kSend r.succ)) 0 ∅ 0)
        ∗ bigSep Finset.univ fun r : Fin 31 => atPos ER (kcell (c, kRecv r.succ)) 0 ∅ 0)
      ⊢ iprop((owes0 c ∗ (bigSep Finset.univ fun r : Fin 31 => semVal (kcell (c, kSend r.succ)) 0)
            ∗ (bigSep Finset.univ fun r : Fin 31 => semVal (kcell (c, kRecv r.succ)) 0)
            ∗ (bigSep Finset.univ fun r => tPts c (peer c r) (xtF (X c)))
            ∗ (bigSep Finset.univ fun r : Fin 31 => cPts c (peer c r.rev) (landF X c)) -∗ WP c k Q)
          -∗ WP c (steps.foldr (waitStep c) k) Q) := by
  have h := wp_fold c (records X W K) (fun _ => owes0 c)
    (fun r => iprop(cred (tallyAt (kcell (c, kSend r.succ)) () N) ∗ cred (tallyAt (kcell (c, kRecv r.succ)) () N)
      ∗ atPos ER (kcell (c, kSend r.succ)) 0 ∅ 0 ∗ atPos ER (kcell (c, kRecv r.succ)) 0 ∅ 0))
    (fun r => iprop(semVal (kcell (c, kSend r.succ)) 0 ∗ semVal (kcell (c, kRecv r.succ)) 0
      ∗ tPts c (peer c r) (xtF (X c)) ∗ cPts c (peer c r.rev) (landF X c))) (waitStep c) Q
    (fun r l k => by exact wp_waitStep X W K c r k Q) steps steps_nodup k
  rw [steps_univ, bigSep_sep', bigSep_sep', bigSep_sep', bigSep_sep', bigSep_sep', bigSep_sep'] at h
  exact h

/-- The four products. -/
theorem wp_products (c : Dev nD) (k : P F) (Q : PUnit → sProp 𝕄) :
    iprop(records X W K ∗ owes0 c ∗ cAll c (landF X c) ∗ (∃ f, oAll c f)
        ∗ (bigSep Finset.univ fun q => cred (tallyAt (kcell (c, kW q)) () NW)) ∗ (bigSep Finset.univ fun q => atPos ER (kcell (c, kW q)) 0 ∅ 0))
      ⊢ iprop((owes0 c ∗ cAll c (landF X c) ∗ oAll c (outF X (W c) c) ∗ (bigSep Finset.univ fun q => semVal (kcell (c, kW q)) 0)
            ∗ (bigSep Finset.univ fun q => bPts c q (bufF (W c))) ∗ (bigSep Finset.univ fun q => wPts c q (W c)) -∗ WP c k Q)
          -∗ WP c (four.foldr mulStep k) Q) := by
  have h := wp_fold c (records X W K) (mulState X W c)
    (fun q => iprop(cred (tallyAt (kcell (c, kW q)) () NW) ∗ atPos ER (kcell (c, kW q)) 0 ∅ 0))
    (fun q => iprop(semVal (kcell (c, kW q)) 0 ∗ bPts c q (bufF (W c)) ∗ wPts c q (W c))) mulStep Q
    (fun q l k => wp_mulStep X W K c q l k Q) four four_nodup k
  rw [four_univ, bigSep_sep', bigSep_sep', bigSep_sep'] at h
  unfold mulState at h
  iintro ⟨#HR, HO, Hc, ⟨%f, Ho⟩, Hcr, Hat⟩ Hk
  iapply h $$ [HO Hc Ho Hcr Hat]
  · isplitr; · iexact HR
    isplitl [HO Hc Ho]
    · isplitl [HO]; · iexact HO
      isplitl [Hc]; · iexact Hc
      iexists f
      isplitr; · ipureintro; exact fun q hq => absurd (mem_four q) hq
      iexact Ho
    isplitl [Hcr] <;> iassumption
  iintro ⟨⟨HO, Hc, %g, %hg, Ho⟩, Hz, Hb, Hw⟩
  rw [eq_outF X W c hg]
  iapply Hk
  isplitl [HO]; · iexact HO
  isplitl [Hc]; · iexact Hc
  isplitl [Ho]; · iexact Ho
  isplitl [Hz]; · iexact Hz
  isplitl [Hb] <;> iassumption

/-! ## The body -/

/-- The tokens of the duties device `c` pays. -/
def payToks (c : Dev nD) : sProp 𝕄 :=
  iprop((bigSep Finset.univ fun r : Fin 31 => dutyTok ER (kcell (peer c r, kBar)) 0 r.rev)
    ∗ (bigSep Finset.univ fun r : Fin 31 => dutyTok ER (kcell (c, kSend r.succ)) 0 0)
    ∗ (bigSep Finset.univ fun r : Fin 31 => dutyTok ER (kcell (peer c r, kRecv r.succ)) 0 0)
    ∗ bigSep Finset.univ fun q : Fin 4 => dutyTok ER (kcell (c, kW q)) 0 0)

/-- The ghost state device `c` starts from. -/
def ghost (c : Dev nD) : sProp 𝕄 :=
  iprop(records X W K ∗ (bigSep Finset.univ fun k : CK => atPos ER (kcell (c, k)) 0 ∅ 0) ∗ payToks c)

/-- The credit the launch deals device `c`: 31 signals, and 31 landings. -/
def creds (c : Dev nD) : sProp 𝕄 :=
  iprop(cred (tallyAt (kcell (c, kBar)) () 31) ∗ bigSep Finset.univ fun r : Fin 31 => cred (tallyAt (kcell (c, kRecv r.succ)) () N))

abbrev bAll (c : Dev nD) (f : BC F) : sProp 𝕄 := ((c : Thread nD τ).loc cc0_scratch2 ↦{fullShare} (show Buf (Elt F) ((c : Thread nD τ).loc cc0_scratch2) from f))
abbrev wAll (c : Dev nD) (f : WC F) : sProp 𝕄 := ((c : Thread nD τ).loc main_arg1 ↦{fullShare} (show Buf (Elt F) ((c : Thread nD τ).loc main_arg1) from f))

/-- A semaphore without duties is at zero for good from the start. -/
theorem idle_later (c : Dev nD) (k : CK) (hk : dut k = ∅) (r : ℕ) : (rd X W).duties (kcell (c, k)) r = ∅ := by
  rcases Nat.eq_zero_or_pos r with rfl | hr
  · rw [duties_at, hk]
  · exact duties_later X W (kcell (c, k)) r hr

/-- The whole body on device `c`. -/
theorem wp_body (c : Dev nD) (Ws : Waits sig Unit) (Q : PUnit → sProp 𝕄) :
    iprop(ghost X W K c ∗ creds c ∗ levAts L lv ∗ owes (c : Thread nD τ) (O₀ c) Ws
        ∗ xAll c (X c) ∗ wAll c (W c) ∗ (∃ f, tAll c f) ∗ (∃ f, cAll c f) ∗ (∃ f, bAll c f) ∗ ∃ f, oAll c f)
      ⊢ iprop((owes0 c ∗ (bigSep Finset.univ fun k : CK => semVal (kcell (c, k)) 0)
            ∗ xAll c (X c) ∗ wAll c (W c) ∗ tAll c (xtF (X c)) ∗ cAll c (landF X c) ∗ bAll c (bufF (W c)) ∗ oAll c (outF X (W c) c) -∗ Q ⟨⟩)
          -∗ WP c (prog c) Q) := by
  unfold ghost creds payToks
  rw [bigSep_kinds (fun k => atPos ER (kcell (c, k)) 0 ∅ 0), bigSep_kinds (fun k => semVal (kcell (c, k)) 0)]
  iintro ⟨⟨#HR, ⟨HaB, ⟨HaS0, HaS⟩, ⟨HaR0, HaR⟩, HaW⟩, HtB, HtS, HtR, HtW⟩, ⟨HcB, HcR⟩, #Hlev, HO, Hx, Hw, Ht, ⟨%fc, Hc⟩, ⟨%fb, Hb⟩, Ho⟩ Hk
  unfold prog
  -- the copies of the weight
  ihave Hw := (Entails.of_eq (wWhole c (W c))) $$ Hw
  ihave Hb := (Entails.of_eq (bWhole c fb)) $$ Hb
  ihave Hb := (pieces_some (fun q f => bPts c q f) fb) $$ Hb
  iapply (wp_copies X W K c _ Q) $$ [Hb Hw HtW]
  · isplitr; · iexact HR
    isplitl [Hb]; · iexact Hb
    isplitl [Hw] <;> iassumption
  iintro HcW
  -- the signals
  ihave Hc := (Entails.of_eq ((cWhole c fc).trans (bigSep_peers c fun t => cPts c t fc))) $$ Hc
  icases Hc with ⟨Hcc, Hc⟩
  ihave Hc := (pieces_some (fun (r : Fin 31) f => cPts c (peer c r) f) fc) $$ Hc
  iapply (wp_signals X W K c Ws _ Q) $$ [HO HtB Hc]
  · isplitr; · iexact HR
    isplitl [HO]; · iexact HO
    isplitl [HtB] <;> iassumption
  iintro HO
  -- the barrier
  iapply (wp_barStep X W K c steps Ws _ Q) $$ [HcB HO HaB]
  · isplitr; · iexact HR
    isplitr; · iexact Hlev
    isplitl [HcB]; · iexact HcB
    isplitl [HO] <;> iassumption
  iintro ⟨HO, HzB, Hc⟩
  -- the transposes
  iapply (wp_transposes c (X c) _ Q) $$ [Hx Ht]
  · isplitl [Hx] <;> iassumption
  iintro ⟨Hx, Ht⟩
  -- the sends
  ihave Ht := (Entails.of_eq ((tWhole c (xtF (X c))).trans (bigSep_peers c fun t => tPts c t (xtF (X c))))) $$ Ht
  icases Ht with ⟨Htc, Ht⟩
  iapply (wp_sends X W K c _ _ Q) $$ [HO Ht Hc HtS HtR]
  · isplitr; · iexact HR
    isplitl [HO]; · iexact HO
    isplitl [Ht]; · iexact Ht
    isplitl [Hc]; · iexact Hc
    isplitl [HtS] <;> iassumption
  iintro ⟨HO, HcS⟩
  -- the own block
  iapply (wp_keepStep X c _ Q) $$ [Htc Hcc]
  · isplitl [Htc]; · iexact Htc
    iexists fc; iexact Hcc
  iintro ⟨Htc, Hcc⟩
  -- the waits
  iapply (wp_waits X W K c _ Q) $$ [HO HcS HcR HaS HaR]
  · isplitr; · iexact HR
    isplitl [HO]; · iexists _; iexact HO
    isplitl [HcS]; · iexact HcS
    isplitl [HcR]; · iexact HcR
    isplitl [HaS] <;> iassumption
  iintro ⟨HO, HzS, HzR, Ht, Hc⟩
  ihave Ht := (Entails.of_eq ((tWhole c (xtF (X c))).trans (bigSep_peers c fun t => tPts c t (xtF (X c)))).symm) $$ [Htc Ht]
  · isplitl [Htc] <;> iassumption
  ihave Hc := (Entails.of_eq (bigSep_rev fun r => cPts c (peer c r) (landF X c))) $$ Hc
  ihave Hc := (Entails.of_eq ((cWhole c (landF X c)).trans (bigSep_peers c fun t => cPts c t (landF X c))).symm) $$ [Hcc Hc]
  · isplitl [Hcc] <;> iassumption
  -- the products
  iapply (wp_products X W K c _ Q) $$ [HO Hc Ho HcW HaW]
  · isplitr; · iexact HR
    isplitl [HO]; · iexact HO
    isplitl [Hc]; · iexact Hc
    isplitl [Ho]; · iexact Ho
    isplitl [HcW] <;> iassumption
  iintro ⟨HO, Hc, Ho, HzW, Hb, Hw⟩
  ihave Hb := (Entails.of_eq (bWhole c (bufF (W c))).symm) $$ Hb
  ihave Hw := (Entails.of_eq (wWhole c (W c)).symm) $$ Hw
  -- the two semaphores nothing uses
  imod (Rounds.cell_close ER (rd X W) (Set.mem_univ (K (c, kSend 0))) (fun h => h) (R := 0) (fun r _ => idle_later X W c (kSend 0) rfl r)) $$ [HaS0] with HzS0
  · isplitr; · iapply (inv_of X W K (c, kSend 0)); iexact HR
    iexact HaS0
  imod (Rounds.cell_close ER (rd X W) (Set.mem_univ (K (c, kRecv 0))) (fun h => h) (R := 0) (fun r _ => idle_later X W c (kRecv 0) rfl r)) $$ [HaR0] with HzR0
  · isplitr; · iapply (inv_of X W K (c, kRecv 0)); iexact HR
    iexact HaR0
  rw [wp_ret]; imodintro
  iapply Hk
  isplitl [HO]; · iexact HO
  isplitl [HzB HzS0 HzS HzR0 HzR HzW]
  · isplitl [HzB]; · iexact HzB
    isplitl [HzS0 HzS]; · isplitl [HzS0] <;> iassumption
    isplitl [HzR0 HzR]; · isplitl [HzR0] <;> iassumption
    iexact HzW
  isplitl [Hx]; · iexact Hx
  isplitl [Hw]; · iexact Hw
  isplitl [Ht]; · iexact Ht
  isplitl [Hc]; · iexact Hc
  isplitl [Hb] <;> iassumption

end Cert.KernelIdeal.Run

end
-- ==== Proof.Launch.lean ====
/-
The launch and the run of the kernel.

The 32 devices start with the protocol's state dealt among them; each body runs as `wp_body` states; the run ends with
every device's result array at `outF` of the blocks of `x` and the weight, both arguments unchanged and every semaphore
at zero.
-/
module

public import proofs.«01_k».proof.Proof.Body

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Dealing the protocol's state -/

section Deal

variable (X : Dev nD → XC F) (W : Dev nD → WC F)

def cells₀ : Finset (GSem nD τ sig) := Finset.univ.map ⟨kcell, kcell_injective⟩

/-- The duties of one device's semaphores: its barrier's, its sends', its landings', its copies'. -/
abbrev Tok : Type := Fin 31 ⊕ Fin 31 ⊕ Fin 31 ⊕ Fin 4

def tokCell : Tok → CK × Fin 31
  | .inl r => (kBar, r)
  | .inr (.inl r) => (kSend r.succ, 0)
  | .inr (.inr (.inl r)) => (kRecv r.succ, 0)
  | .inr (.inr (.inr q)) => (kW q, 0)

theorem tokCell_injective : Function.Injective tokCell := by
  intro x y h
  rcases x with r | r | r | q <;> rcases y with r' | r' | r' | q' <;> unfold tokCell at h <;>
    simp only [Prod.mk.injEq, Sum.inr.injEq, Sum.inl.injEq, Fin.succ_inj, reduceCtorEq, false_and, true_and, and_true] at h ⊢ <;>
    exact h

def tokOf (cj : Dev nD × Tok) : GSem nD τ sig × ℕ × Fin 31 := (kcell (cj.1, (tokCell cj.2).1), 0, (tokCell cj.2).2)

theorem tokOf_injective : Function.Injective tokOf := by
  rintro ⟨c, j⟩ ⟨c', j'⟩ h
  have h1 := kcell_injective (congrArg Prod.fst h)
  have h2 := congrArg (fun x : GSem nD τ sig × ℕ × Fin 31 => x.2.2) h
  have h3 : c = c' := congrArg Prod.fst h1
  have h4 : j = j' := tokCell_injective (Prod.ext (congrArg Prod.snd h1) h2)
  rw [h3, h4]

def toks₀ : Finset (GSem nD τ sig × ℕ × Fin 31) := Finset.univ.map ⟨tokOf, tokOf_injective⟩

def u₀ : UU := (initOf (Pipeline.cells cfgs cellOf_inj) (Pipeline.launchToks cfgs cellOf_inj), initOf cells₀ toks₀)

/-- The tokens of the duties of device `c`'s own semaphores. -/
def toks (c : Dev nD) : sProp 𝕄 :=
  iprop((bigSep Finset.univ fun r : Fin 31 => dutyTok ER (kcell (c, kBar)) 0 r)
    ∗ (bigSep Finset.univ fun r : Fin 31 => dutyTok ER (kcell (c, kSend r.succ)) 0 0)
    ∗ (bigSep Finset.univ fun r : Fin 31 => dutyTok ER (kcell (c, kRecv r.succ)) 0 0)
    ∗ bigSep Finset.univ fun q : Fin 4 => dutyTok ER (kcell (c, kW q)) 0 0)

/-- What the launch deals device `c`. -/
def G (c : Dev nD) : sProp 𝕄 :=
  iprop((bigSep Finset.univ fun k : CK => roundState ER (rd X W) (kcell (c, k)) 0)
    ∗ (bigSep Finset.univ fun k : CK => iprop(atPos ER (kcell (c, k)) 0 ∅ 0 ∗ reached ER (kcell (c, k)) 0)) ∗ toks c)

/-- What a device starts from, once the records are made. -/
def G' (c : Dev nD) : sProp 𝕄 := iprop(∃ K, ghost X W K c)

omit [FloatOps F] in
theorem bigSep_cells (Φ : GSem nD τ sig → sProp 𝕄) :
    bigSep cells₀ Φ = bigSep Finset.univ fun c : Dev nD => bigSep Finset.univ fun k : CK => Φ (kcell (c, k)) := by
  unfold cells₀; rw [bigSep_map, bigSep_univ_prod]; rfl

omit [FloatOps F] in
theorem bigSep_toks :
    bigSep toks₀ (fun x => (dutyTok ER x.1 x.2.1 x.2.2 : sProp 𝕄)) = bigSep Finset.univ fun c : Dev nD => toks c := by
  unfold toks₀; rw [bigSep_map, bigSep_univ_prod]
  exact bigSep_congr fun c _ => by
    unfold toks
    rw [bigSep_univ_sum, bigSep_univ_sum, bigSep_univ_sum]
    rfl

theorem fund_all : BI.own (ER (initOf cells₀ toks₀)) ⊢ (|==> bigSep Finset.univ (G X W) : sProp 𝕄) := by
  iintro HX
  imod (Rounds.fund ER (rd X W) cells₀ toks₀) $$ HX with ⟨Hst, Hr, Hat, Htok⟩
  imodintro
  ihave Hst' := (Entails.of_eq (bigSep_cells fun g => roundState ER (rd X W) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_toks) $$ Htok
  unfold G; simp only [bigSep_sep']
  isplitl [Hst']; · iexact Hst'
  isplitl [Hat' Hr']
  · isplitl [Hat'] <;> iassumption
  iexact Htok'

omit [FloatOps F] in
/-- The barrier semaphore is the one no scope releases. -/
theorem unscopedSems0_eq (c : Dev nD) : (unscopedSems0 c : sProp 𝕄) = semVal (kcell (c, kBar)) 0 := by
  unfold unscopedSems0; rw [bigSep_eq_bigSepL_of_eq [SemLoc.reg barS] (by decide +kernel) (by decide +kernel)]; rfl

omit [FloatOps F] in
/-- The counters of a device's semaphores: the barrier's, and those of the kernel's own. -/
theorem sems_eq (c : Dev nD) :
    (bigSep Finset.univ fun k : CK => (semVal (kcell (c, k)) 0 : sProp 𝕄))
      = iprop(unscopedSems0 c ∗ Pipeline.ownSems0 (Ix := Unit) (Name := ℕ) (U := UU) (Lvl := ℕ) (Val := Elt F) (τ := τ) osem c) := by
  rw [bigSep_univ_sum, Finset.univ_unique (α := Unit), bigSep_singleton, unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k => iprop(∃ κ : ℕ, cellInv ER (rd X W) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CK => semVal (kcell (c, k)) 0) ∗ bigSep Finset.univ fun k : CK => roundState ER (rd X W) (kcell (c, k)) 0)
      ⊢ (|={Set.univ}=> bigSep Finset.univ fun k => iprop(∃ κ : ℕ, cellInv ER (rd X W) κ (kcell (c, k))) : sProp 𝕄) from by
        rw [← bigSep_sep']
        exact (bigSep_mono fun k _ => (Rounds.body_intro ER (rd X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over pairs of a device and a step, each device moved on by the step. -/
theorem deal_on (Φ : Dev nD → Fin 31 → sProp 𝕄) :
    (bigSep Finset.univ fun c : Dev nD => bigSep Finset.univ fun r : Fin 31 => Φ c r)
      = bigSep Finset.univ fun c : Dev nD => bigSep Finset.univ fun r : Fin 31 => Φ (peer c r) r := by
  rw [bigSep_univ_comm, bigSep_univ_comm (fun (c : Dev nD) (r : Fin 31) => Φ (peer c r) r)]
  exact bigSep_congr fun r _ => bigSep_univ_equiv (peerEquiv r) fun c => Φ c r

omit [FloatOps F] in
/-- The tokens dealt to those who pay. -/
theorem toks_around : (bigSep Finset.univ fun c : Dev nD => (toks c : sProp 𝕄)) ⊢ bigSep Finset.univ fun c : Dev nD => payToks c := by
  have h1 : (bigSep Finset.univ fun c : Dev nD => bigSep Finset.univ fun r : Fin 31 => (dutyTok ER (kcell (c, kBar)) 0 r : sProp 𝕄))
      = bigSep Finset.univ fun c : Dev nD => bigSep Finset.univ fun r : Fin 31 => dutyTok ER (kcell (peer c r, kBar)) 0 r.rev :=
    (bigSep_congr fun c _ => (bigSep_rev fun r => (dutyTok ER (kcell (c, kBar)) 0 r : sProp 𝕄)).symm).trans
      (deal_on fun c r => dutyTok ER (kcell (c, kBar)) 0 r.rev)
  have h2 := deal_on (F := F) fun c r => dutyTok ER (kcell (c, kRecv r.succ)) 0 0
  unfold toks payToks
  rw [bigSep_sep', bigSep_sep', bigSep_sep', bigSep_sep', bigSep_sep', bigSep_sep', h1, h2]

theorem ghost_intro (K : Dev nD × CK → ℕ) (c : Dev nD) :
    iprop(records X W K ∗ (bigSep Finset.univ fun k : CK => (atPos ER (kcell (c, k)) 0 ∅ 0 : sProp 𝕄)) ∗ payToks c) ⊢ G' X W c := by
  unfold G' ghost
  iintro H
  iexists K; iexact H

theorem regroup :
    (bigSep Finset.univ fun c : Dev nD => iprop((bigSep Finset.univ fun k => iprop(∃ κ : ℕ, cellInv ER (rd X W) κ (kcell (c, k))))
          ∗ (bigSep Finset.univ fun k => iprop(atPos ER (kcell (c, k)) 0 ∅ 0 ∗ reached ER (kcell (c, k)) 0)) ∗ toks c) : sProp 𝕄)
      ⊢ bigSep Finset.univ (G' X W) := by
  rw [bigSep_sep', bigSep_sep', ← bigSep_univ_prod (fun ck : Dev nD × CK => iprop(∃ κ : ℕ, cellInv ER (rd X W) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd X W) κ (kcell ck) : sProp 𝕄))) $$ HI
  icases HK with ⟨%K, #HI⟩
  ihave Htk := (toks_around (F := F)) $$ Htok
  ihave Hall := (Entails.of_eq (bigSep_sep' Finset.univ (fun c : Dev nD => bigSep Finset.univ fun k : CK => (atPos ER (kcell (c, k)) 0 ∅ 0 : sProp 𝕄)) payToks).symm) $$ [Hat Htk]
  · isplitl [Hat] <;> iassumption
  ihave Hrec := (show iprop((bigSep Finset.univ fun ck : Dev nD × CK => cellInv ER (rd X W) (K ck) (kcell ck))
      ∗ bigSep Finset.univ fun ck : Dev nD × CK => reached ER (kcell ck) 0) ⊢ records X W K from Entails.of_eq (by unfold records; rfl)) $$ [HI HR]
  · isplitr; · iexact HI
    iexact HR
  iapply (bigSep_with_persistent (S := Finset.univ) (R := records X W K) fun c _ => ghost_intro X W K c)
  isplitl [Hrec]; · iexact Hrec
  iexact Hall

/-- The records are made from the semaphores of all devices at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ### The credit -/

omit [FloatOps F] in
theorem cred_recv (c : Dev nD) (l : List (Fin 31)) (hl : l.Nodup) :
    (Pipeline.launchCred (fun d => recvO d l) c : sProp 𝕄) ⊢ bigSep l.toFinset fun r : Fin 31 => cred (tallyAt (kcell (c, kRecv r.succ)) () N) := by
  induction l with
  | nil => rw [List.toFinset_nil, bigSep_empty]; exact Entails.of_eq (Pipeline.launchCred_zero c)
  | cons r l ih =>
    have hi : r ∉ l.toFinset := fun hm => (List.nodup_cons.mp hl).1 (List.mem_toFinset.mp hm)
    rw [List.toFinset_cons, bigSep_ins hi, funext fun d => recvO_cons d r l, Pipeline.launchCred_add]
    iintro ⟨H1, H2⟩
    isplitl [H2]
    · iapply (Pipeline.launchCred_tallyAt (csem (kRecv r.succ)) (fun d => peer d r) (fun d => peer d r.rev) (fun d => peer_rev' d r) (fun d => peer_rev d r) () N c)
      iexact H2
    · iapply (ih (List.nodup_cons.mp hl).2); iexact H1

omit [FloatOps F] in
theorem cred_bar (c : Dev nD) (l : List (Fin 31)) :
    (Pipeline.launchCred (fun d => barO d l) c : sProp 𝕄) ⊢ cred (tallyAt (kcell (c, kBar)) () l.length) := by
  induction l with
  | nil =>
    refine (Entails.of_eq (Pipeline.launchCred_zero c)).trans ?_
    rw [List.length_nil, tallyAt_zero, cred_zero]
  | cons r l ih =>
    rw [funext fun d => barO_cons d r l, Pipeline.launchCred_add, List.length_cons, ← tallyAt_add]
    iintro ⟨H1, H2⟩
    iapply (cred_add _ _).2
    isplitl [H1]
    · iapply ih; iexact H1
    · iapply (Pipeline.launchCred_tallyAt (csem kBar) (fun d => peer d r) (fun d => peer d r.rev) (fun d => peer_rev' d r) (fun d => peer_rev d r) () 1 c)
      iexact H2

omit [FloatOps F] in
theorem creds_intro (c : Dev nD) : (Pipeline.launchCred O₀ c : sProp 𝕄) ⊢ creds c := by
  unfold creds
  rw [show (O₀ : Dev nD → CellTallies nD τ sig Unit) = fun d => recvO d steps + barO d steps from rfl, Pipeline.launchCred_add]
  iintro ⟨H1, H2⟩
  isplitl [H2]
  · iapply (cred_bar c steps); iexact H2
  · rw [← steps_univ]; iapply (cred_recv c steps steps_nodup); iexact H1

end Deal

end Cert.KernelIdeal.Run

end
-- ==== Proof.Run.lean ====
/-
The run of the kernel on its mesh.

The launch theorem applied: the pipeline stages each device's block of `x` and its result, the body runs between them as
`wp_body` states, and the weight, which no window stages, is held beside the pipeline and read when the run ends.
-/
module

public import proofs.«01_k».proof.Proof.Launch
public import proofs.«01_k».proof.Proof.Gen.KernelIdeal.Points
public import Idealize.ShloMosaic.Lib.Pipeline.Value
public import Idealize.ShloMosaic.Lib.Pipeline.CollectiveSegs
public import Idealize.ShloMosaic.Lib.StableHlo.RunHlo

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory before the run. -/
abbrev s₀ : MemSt nD τ sig (Elt F) := ⟨m, fun _ => 0, ρ⟩

/-- The device's block of `x`, and its weight. -/
def xIn (c : Dev nD) : XC F := m ((c : Thread nD τ).loc main_arg0)
def wIn (c : Dev nD) : WC F := m ((c : Thread nD τ).loc main_arg1)

/-! ## The windows -/

omit [FloatOps F] in
/-- The window of `x` is the whole array; so is the result's. -/
theorem read_blk0 (t : Fin cfg0.N) (f : XC F) : ((cfg0.win 0).blk t).view.read (Elt F) f = f := by
  obtain rfl := fin_N0 t
  funext j
  show f ((win0_0.rect t0_0).emb j) = f j
  congr 1
  funext a; refine Fin.ext ?_
  rw [ValueKit.rect_emb_unit_val]
  fin_cases a <;> exact Nat.zero_add _

omit [FloatOps F] in
theorem read_blk1 (t : Fin cfg0.N) (f : OC F) : ((cfg0.win 1).blk t).view.read (Elt F) f = f := by
  obtain rfl := fin_N0 t
  funext j
  show f ((win0_1.rect t0_0).emb j) = f j
  congr 1
  funext a; refine Fin.ext ?_
  rw [ValueKit.rect_emb_unit_val]
  fin_cases a <;> exact Nat.zero_add _

/-! ## The pipeline's data -/

/-- What device `c`'s body starts from beside its staging buffers. -/
def start (c : Dev nD) : sProp 𝕄 :=
  iprop((∃ K, ghost (xIn m) (wIn m) K c) ∗ creds c ∗ levAts L lv ∗ wAll c (wIn m c))

def Φ₀ (c : Dev nD) : sProp 𝕄 := iprop(start m c ∗ (∃ f, tAll c f) ∗ (∃ f, cAll c f) ∗ ∃ f, bAll c f)

/-- What it ends with. -/
def Φ₁ (c : Dev nD) : sProp 𝕄 :=
  iprop((bigSep Finset.univ fun k : CK => semVal (kcell (c, k)) 0) ∗ wAll c (wIn m c)
    ∗ (∃ f, tAll c f) ∗ (∃ f, cAll c f) ∗ ∃ f, bAll c f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => outF (xIn m) (wIn m c) c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staged block of `x` is the array's. -/
theorem before_x (c : Dev nD) (d) : (dats m ρ 0 c).before (0 : Fin 2) t0_0 d = xIn m c := by
  unfold Dat.before; rw [if_pos (fetch0_0 t0_0)]
  exact read_blk0 t0_0 (xIn m c)

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (xIn m c) ∗ stg c cc0_stg1_0 (outF (xIn m) (wIn m c) c))

/-- The body between the pipeline's staging buffers. -/
theorem sound_body (c : Dev nD) : bodyPre m ρ c ⊢ WP c (prog c) fun _ => bodyPost m ρ c := by
  unfold bodyPre Φ₀ start Dat.owesAt Pipeline.owesWithin
  iintro ⟨⟨⟨⟨%K, Hg⟩, Hcr, Hlev, Hw⟩, Ht, Hc, Hb⟩, ⟨%Ws, %hWs, HO⟩, ⟨%d0, %g0, %hg0, Hx⟩, ⟨%d1, %g1, -, Ho⟩⟩
  rw [show (dats m ρ 0 c).owed t0_0.castSucc = O₀ c from rfl]
  have hx : g0 = xIn m c := hg0.trans (before_x m ρ c d0)
  rw [hx]
  iapply (wp_body (xIn m) (wIn m) K c Ws fun _ => bodyPost m ρ c) $$ [Hg Hcr Hlev Hw Ht Hc Hb HO Hx Ho]
  · isplitl [Hg]; · iexact Hg
    isplitl [Hcr]; · iexact Hcr
    isplitl [Hlev]; · iexact Hlev
    isplitl [HO]; · iexact HO
    isplitl [Hx]; · iexact Hx
    isplitl [Hw]; · iexact Hw
    isplitl [Ht]; · iexact Ht
    isplitl [Hc]; · iexact Hc
    isplitl [Hb]; · iexact Hb
    iexists g1; iexact Ho
  iintro ⟨⟨%Ws', HO⟩, Hz, Hx, Hw, Ht, Hc, Hb, Ho⟩
  unfold bodyPost Φ₁ Dat.owesAt Pipeline.owesWithin
  rw [show (dats m ρ 0 c).owed t0_0.succ = 0 from rfl]
  isplitl [Hz Hw Ht Hc Hb]
  · isplitl [Hz]; · iexact Hz
    isplitl [Hw]; · iexact Hw
    isplitl [Ht]; · iexists (xtF (xIn m c)); iexact Ht
    isplitl [Hc]; · iexists (landF (xIn m) c); iexact Hc
    iexists (bufF (wIn m c)); iexact Hb
  isplitl [HO]
  · iexists Ws'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 100000 in
/-- The pipeline's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) (Memref.whole cc0_stg0_0) (Memref.isWhole_whole _) (Memref.whole main_arg1) (Memref.isWhole_whole _)
      (Memref.whole cc0_stg1_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4 cc0_scratch5) fun _ => bodyPost m ρ c
  rw [body_eq]
  unfold WP
  rw [wp_deviceId]
  rw [progP_eq]
  exact sound_body m ρ c

/-! ## The side conditions of the launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (wIn m) c)
      ⊢ |={Set.univ}=> iprop(start m c ∗ emp) := by
  rw [Pipeline.unscopedRestP_none, unscopedRest0_eq]
  iintro ⟨Hw, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What a device keeps to the end: its barrier's counter and its weight. -/
def kept (c : Dev nD) : sProp 𝕄 := iprop(unscopedSems0 c ∗ wAll c (wIn m c))

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ kept
  rw [sems_eq]
  iintro ⟨⟨Hu, Ho⟩, Hw, Hr⟩
  isplitl [Hu Hw]
  · isplitl [Hu] <;> iassumption
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the end of a run reads of device `c`: the counters no scope releases are zero and the weight is as it was. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = wIn m c

theorem kept_read (c : Dev nD) (s' : Phys nD τ sig (Elt F)) :
    iprop(kept m c ∗ emp ∗ SI s') ⊢ (|={Set.univ}=> iprop(⌜QY m c s'.mem⌝ ∗ SI s') : sProp 𝕄) := by
  unfold kept
  iintro ⟨⟨Hu, Hw⟩, -, HSI⟩
  imod (Pipeline.unscopedSems0_read (X := unscopedSems0 c) (c := c) fupd_intro s') $$ [Hu HSI] with ⟨%hu, HSI⟩
  · isplitl [Hu] <;> iassumption
  ihave H := (pointsTo_read_all {main_arg1} (fun b => (c : Thread nD τ).loc b) (fun b => m ((c : Thread nD τ).loc b)) s') $$ [Hw HSI]
  · isplitl [Hw]
    · rw [bigSep_singleton]; iexact Hw
    iexact HSI
  icases H with ⟨%hw, HSI⟩
  imodintro
  isplitr; · ipureintro; exact ⟨hu, hw main_arg1 (Finset.mem_singleton_self _)⟩
  iexact HSI

/-! ## The run -/

/-- The run's result: each window's array at its final contents, the weight as it was. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg1) = wIn m c

set_option maxRecDepth 100000 in
/-- On the mesh of 32 devices, from any memory with zero counters, every weakly fair execution ends, and ends so. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xIn m) (wIn m)) (G' := G' (xIn m) (wIn m)) (u₀ := u₀)
    (hu₀ := by
      unfold u₀
      iintro Hu
      ihave H := (ownU_pair _ _) $$ Hu
      icases H with ⟨HP, HX⟩
      imod (fund_all (xIn m) (wIn m)) $$ HX with HG
      imodintro
      isplitl [HP] <;> iassumption)
    (hglob := glob (xIn m) (wIn m))
    (hA := fun _ _ => rfl) (hpf := fun _ k => k.elim0)
    (X := start m) (Y := kept m) (Z := fun _ => iprop(emp))
    (hX := start_intro m ρ) (hin := phi0_intro m ρ) (hout := phi1_exit m ρ)
    (QY := QY m)
    (hY := kept_read m)
    (hQ := fun _ h hs => ⟨fun c => ⟨(h c).1, (h c).2.2.2⟩, sem_eq_zero hs fun c => (h c).2.2.1⟩)

/-- The array of `x` ends as it began. -/
theorem arr_x (c : Dev nD) : (dats m ρ 0 c).arrAt 0 cfg0.N = m ((c : Thread nD τ).loc main_arg0) :=
  (dats m ρ 0 c).arrAt_in 0 rfl _

/-- The result's array ends at `outF`. -/
theorem arr_out (c : Dev nD) : (dats m ρ 0 c).arrAt 1 cfg0.N = outF (xIn m) (wIn m c) c := by
  refine (dats m ρ 0 c).arrAt_eq_of_cover 1 _ (fun t _ => ?_) fun i => ⟨t0_0, flush0_1 _, ?_⟩
  · rw [read_blk1]; rfl
  · show i ∈ ((View.whole main_v1).slice (win0_1.rect t0_0)).set
    rw [View.set_slice_whole, Rect.mem_set_unit]
    intro a
    fin_cases a
    · exact ⟨Nat.zero_le _, (Nat.zero_add 64).symm ▸ (i 0).isLt⟩
    · exact ⟨Nat.zero_le _, (Nat.zero_add 2048).symm ▸ (i 1).isLt⟩

/-- Every execution ends with each device's result at `outF`, both arguments as they were, every counter at zero. -/
theorem run_value : θ_run defs (onTc (τ := τ) (main (F := F))) (s₀ m ρ) (fun r =>
    (∀ c : Dev nD, r.2.mem ((c : Thread nD τ).loc main_v1) = outF (xIn m) (wIn m c) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine θ_run_mono (run_main m ρ) fun r hr => ⟨fun c => ?_, hr.2⟩
  have h := hr.1 c
  exact ⟨(h.1 1).trans (arr_out m ρ c), (h.1 0).trans (arr_x m ρ c), h.2⟩

end Cert.KernelIdeal.Run

end
-- ==== Proof.Value.lean ====
/-
The value: at the exact arithmetic each device's result is its 64 rows of the reference's result.

Row `k`, column `a` of the landing buffer of device `c` is `x` at row `64 c + a`, column `k`: the block that came from
device `s` was cut from columns `64 s` on, and was transposed before it was sent. So the product over the landing
buffer's rows is the product over all of `x`'s columns.
-/
module

public import proofs.«01_k».proof.Proof.Contents
public import proofs.«01_k».proof.Proof.Gen.ReferenceIdeal.Run
public import Idealize.ShloMosaic.Lib.Pointwise
public import Idealize.ShloMosaic.Lib.Layout
public import Idealize.ShloMosaic.Lib.StableHlo.RunHlo
public import Idealize.ShloMosaic.Lib.Quiescent

@[expose] public section

noncomputable section

namespace Cert.KernelIdeal.Run

open Cert.KernelIdeal Cert.KernelIdeal.Gen
open Idealize.ShloMosaic Idealize.ShloMosaic.TcCoe

/-! ## The landing buffer -/

section Landing

variable {F : FTy → Type} [FloatOps F]

/-- The stored block is the loaded one transposed. -/
theorem tr_at (v : Vec F S64x64 .bf16) (a b : Fin 64) : k0_pay2 v (ix2 a b) = v (ix2 b a) := by
  pointwise [k0_pay2]

/-- Device `c`'s row `64 s + j`, column `a` of the landing buffer: device `s`'s block at row `64 c + a`, column `j`. -/
theorem land_at (X : Dev nD → XC F) (c s : Fin 32) (j a : Fin 64) :
    landF X c ((tRect s).emb (ix2 j a)) = X s ((tRect c).emb (ix2 a j)) := by
  rw [landF_emb, xtF_emb, tr_at]

/-- Where device `s`'s block of `x`, cut along the columns, lies in `x`. -/
theorem x_at (x : S2048x2048.Idx → Elt F .bf16) (c s : Fin 32) (j a : Fin 64) :
    Layout.block (⟨2, ![2048, 64]⟩ : Shape) ⟨2, ![2048, 2048]⟩ 1 32 s x (by decide) ((tRect c).emb (ix2 a j))
      = x (ix2 ⟨64 * c.val + a.val, by omega⟩ ⟨64 * s.val + j.val, by omega⟩) := by
  rw [tRect_emb]
  refine congrArg x ?_
  funext b; refine Fin.ext ?_
  fin_cases b
  · rfl
  · show s.val * 64 + j.val = 64 * s.val + j.val
    omega

/-- The landing buffer of device `c` is its 64 rows of `x`, transposed. -/
theorem land_x (x : S2048x2048.Idx → Elt F .bf16) (c : Fin 32) (k : Fin 2048) (a : Fin 64) :
    landF (fun s => Layout.block (⟨2, ![2048, 64]⟩ : Shape) ⟨2, ![2048, 2048]⟩ 1 32 s x (by decide)) c (ix2 k a)
      = x (ix2 ⟨64 * c.val + a.val, by omega⟩ k) := by
  have hk : (ix2 k a : S2048x64.Idx) = (tRect ⟨k.val / 64, by omega⟩).emb (ix2 ⟨k.val % 64, Nat.mod_lt _ (by decide)⟩ a) := by
    rw [tRect_emb]
    funext b; refine Fin.ext ?_
    fin_cases b
    · exact (Nat.div_add_mod k.val 64).symm
    · rfl
  rw [hk, land_at, x_at]
  congr 1
  funext b; refine Fin.ext ?_
  fin_cases b
  · rfl
  · exact Nat.div_add_mod k.val 64

/-- The weight's slice `q` at row `k`, column `b` is the weight at row `k`, column `512 q + b`. -/
theorem buf_at (w : WC F) (q : Fin 4) (k : Fin 2048) (b : Fin 512) :
    bufF w ((bRect q).emb (ix3 0 k b)) = w (ix2 k ⟨512 * q.val + b.val, by omega⟩) := by
  unfold bufF
  congr 1
  funext x; refine Fin.ext ?_
  fin_cases x
  · show ((bRect q).emb (ix3 0 k b) 1).val = k.val
    rw [ValueKit.rect_emb_unit_val]; exact Nat.zero_add _
  · show 512 * ((bRect q).emb (ix3 0 k b) 0).val + ((bRect q).emb (ix3 0 k b) 2).val = 512 * q.val + b.val
    rw [ValueKit.rect_emb_unit_val, ValueKit.rect_emb_unit_val]
    show 512 * (q.val + 0) + (0 + b.val) = 512 * q.val + b.val
    omega

end Landing

/-! ## The activation -/

/-- The activation of a product `y`, as the reference writes it. -/
def act (y : EReal) : EReal :=
  (Ideal.ofBits .f32 0x3F000000#32 * y) * (1 + Ideal.tanh (Ideal.ofBits .f32 0x3F4C422A#32 * (y + Ideal.ofBits .f32 0x3D372713#32 * ((y * y) * y))))

/-- What the kernel stores, at an index: the activation of the product of a row of the landed blocks with a column of the slice. -/
theorem pay_at (v : Vec Ideal S2048x64 .bf16) (w : Vec Ideal S1x2048x512 .bf16) (a : Fin 64) (b : Fin 512) :
    k0_pay1 v w (ix2 a b) = act (∑ k : Fin 2048, v (ix2 k a) * w (ix3 0 k b)) := by
  pointwise [k0_pay1]
  unfold act
  generalize (∑ k : Fin 2048, v (ix2 k a) * w (ix3 0 k b)) = y
  generalize Ideal.ofBits .f32 1027024659#32 = d
  rw [show d * (y * y * y) = d * y * y * y by rw [mul_assoc y y y, ← mul_assoc d y, ← mul_assoc (d * y) y]]

/-! ## The reference -/

/-- The reference's result of `x` and the weight. -/
def refOut (x w : FVec Ideal Cert.ReferenceIdeal.S2048x2048 .bf16) : FVec Ideal Cert.ReferenceIdeal.S2048x2048 .f32 := fun i =>
  act (∑ k : Fin 2048, x (ix2 (i 0) k) * w (ix2 k (i 1)))

/-- Device `c`'s result is block `c` of the reference's, cut along the rows. -/
theorem out_eq (x w : S2048x2048.Idx → Elt Ideal .bf16) (c : Fin 32) :
    outF (fun s => Layout.block (⟨2, ![2048, 64]⟩ : Shape) ⟨2, ![2048, 2048]⟩ 1 32 s x (by decide)) w c
      = Layout.block (⟨2, ![64, 2048]⟩ : Shape) ⟨2, ![2048, 2048]⟩ 0 32 c (refOut x w) (by decide) := by
  funext i
  obtain ⟨a, n, rfl⟩ : ∃ (a : Fin 64) (n : Fin 2048), i = ix2 a n := ⟨i 0, i 1, eq_ix2 i⟩
  have hi : (ix2 a n : S64x2048.Idx) = (oRect ⟨n.val / 512, by omega⟩).emb (ix2 a ⟨n.val % 512, Nat.mod_lt _ (by decide)⟩) := by
    rw [oRect_emb]
    funext b; refine Fin.ext ?_
    fin_cases b
    · rfl
    · exact (Nat.div_add_mod n.val 512).symm
  rw [Layout.block_apply]
  rw [hi, outF_emb, pay_at, ← hi]
  unfold refOut
  congr 1
  refine Finset.sum_congr rfl fun k _ => ?_
  rw [land_x, buf_at]
  refine congrArg₂ (· * ·) (congrArg x ?_) (congrArg w ?_)
  · funext b; refine Fin.ext ?_
    fin_cases b
    · show 64 * c.val + a.val = c.val * 64 + a.val
      omega
    · rfl
  · funext b; refine Fin.ext ?_
    fin_cases b
    · rfl
    · exact Nat.div_add_mod n.val 512

end Cert.KernelIdeal.Run

namespace Cert.ReferenceIdeal.Value

open Cert.ReferenceIdeal Cert.ReferenceIdeal.Gen Idealize.ShloMosaic Idealize.ShloMosaic.TcCoe Idealize.SL.Sem

/-- The reference's run: its result at `refOut` of its arguments, the arguments as they were, every counter at zero. -/
theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v15)
          = Cert.KernelIdeal.Run.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  θ_run_mono (run m ρ) fun r h => ⟨fun c => ⟨(h c).1.trans (by
    funext i
    obtain ⟨a, b, rfl⟩ : ∃ (a b : Fin 2048), i = ix2 a b := ⟨i 0, i 1, eq_ix2 i⟩
    unfold Cert.KernelIdeal.Run.refOut Cert.KernelIdeal.Run.act
    pointwise), (h c).2⟩, sem_eq_zero_of_no_sems rfl r.2⟩

end Cert.ReferenceIdeal.Value

end
-- ==== Proof.lean ====
/-
The certificate's claims: the kernel on 32 devices at any float values, its ideal reading and the reference each run,
leave their arguments unchanged and every semaphore counter at zero; and at the exact arithmetic each device's result is
its block of rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.KernelRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m g _ =>
  θ_run_mono (Cert.Kernel.Run.run_value m g) fun _ h => ⟨fun c => (h.1 c).2, h.2⟩

/-- The ideal kernel's frame. -/
theorem frame_ideal : Cert.quiescent_KernelIdeal := fun m g _ =>
  θ_run_mono (Cert.KernelIdeal.Run.run_value m g) fun _ h => ⟨fun c => (h.1 c).2, h.2⟩

/-- The reference's frame. -/
theorem frame_reference : Cert.quiescent_ReferenceIdeal := fun m g _ =>
  θ_run_mono (Cert.ReferenceIdeal.Value.run_ref m g) fun _ h => ⟨fun c => (h.1 c).2, h.2⟩

/-- On memories that hold the reference's arguments cut over the devices, the kernel's results are the reference's, cut. -/
theorem value : Cert.algebraic_KernelIdeal_ReferenceIdeal := fun m g m' g' _ hin => by
  have hx : Cert.KernelIdeal.Run.xIn m = fun s => Layout.block (⟨2, ![2048, 64]⟩ : Shape) ⟨2, ![2048, 2048]⟩ 1 32 s
      (m' (((0 : Dev Cert.ReferenceIdeal.nD).tc : Thread Cert.ReferenceIdeal.nD Cert.ReferenceIdeal.τ).loc Cert.ReferenceIdeal.main_arg0)) (by decide) :=
    funext fun s => (hin s).1
  refine ⟨_, θ_run_mono (Cert.KernelIdeal.Run.run_value m g) fun r h c => ⟨(h.1 c).1.trans ?_, (h.1 c).2⟩,
    θ_run_mono (Cert.ReferenceIdeal.Value.run_ref m' g') fun r h => h.1 0⟩
  have hw : Cert.KernelIdeal.Run.wIn m c
      = m' (((0 : Dev Cert.ReferenceIdeal.nD).tc : Thread Cert.ReferenceIdeal.nD Cert.ReferenceIdeal.τ).loc Cert.ReferenceIdeal.main_arg1) := (hin c).2
  rw [hx, hw]
  exact Cert.KernelIdeal.Run.out_eq _ _ c

theorem claim : Cert.Claim := ⟨Cert.Kernel.Gen.facts, Cert.KernelIdeal.Gen.facts, Cert.ReferenceIdeal.Gen.facts,
  frame_kernel, frame_ideal, frame_reference, trivial, value⟩

end Cert.Proof

end
